-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6)
      ∧ r.2.mem ((c.tc : Thread Cert.Kernel5.nD Cert.Kernel5.τ).loc Cert.Kernel5.main_arg7) = m ((c.tc : Thread Cert.Kernel5.nD Cert.Kernel5.τ).loc Cert.Kernel5.main_arg7)
      ∧ r.2.mem ((c.tc : Thread Cert.Kernel5.nD Cert.Kernel5.τ).loc Cert.Kernel5.main_arg8) = m ((c.tc : Thread Cert.Kernel5.nD Cert.Kernel5.τ).loc Cert.Kernel5.main_arg8)
      ∧ r.2.mem ((c.tc : Thread Cert.Kernel5.nD Cert.Kernel5.τ).loc Cert.Kernel5.main_arg9) = m ((c.tc : Thread Cert.Kernel5.nD Cert.Kernel5.τ).loc Cert.Kernel5.main_arg9))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
      ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
      ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7)
      ∧ r.2.mem ((c.tc : Thread Cert.Reference5Ideal.nD Cert.Reference5Ideal.τ).loc Cert.Reference5Ideal.main_arg8) = m ((c.tc : Thread Cert.Reference5Ideal.nD Cert.Reference5Ideal.τ).loc Cert.Reference5Ideal.main_arg8)
      ∧ r.2.mem ((c.tc : Thread Cert.Reference5Ideal.nD Cert.Reference5Ideal.τ).loc Cert.Reference5Ideal.main_arg9) = m ((c.tc : Thread Cert.Reference5Ideal.nD Cert.Reference5Ideal.τ).loc Cert.Reference5Ideal.main_arg9))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v19)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v5)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v5) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v19) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v2)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v2) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v13) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v15_0)) (v1 : (c : Dev Cert.Kernel4Ideal.nD) → Buf (Elt Ideal) ((c.tc : Thread Cert.Kernel4Ideal.nD Cert.Kernel4Ideal.τ).loc Cert.Kernel4Ideal.main_v15_1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v15_0) = v0 c
          ∧ r.2.mem ((c.tc : Thread Cert.Kernel4Ideal.nD Cert.Kernel4Ideal.τ).loc Cert.Kernel4Ideal.main_v15_1) = v1 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v26) = v0 c
          ∧ r.2.mem ((c.tc : Thread Cert.Reference4Ideal.nD Cert.Reference4Ideal.τ).loc Cert.Reference4Ideal.main_v28) = v1 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)
      ∧ m' ((c.tc : Thread Cert.Reference5Ideal.nD Cert.Reference5Ideal.τ).loc Cert.Reference5Ideal.main_arg7) = m ((c.tc : Thread Cert.Kernel5Ideal.nD Cert.Kernel5Ideal.τ).loc Cert.Kernel5Ideal.main_arg7)
      ∧ m' ((c.tc : Thread Cert.Reference5Ideal.nD Cert.Reference5Ideal.τ).loc Cert.Reference5Ideal.main_arg8) = m ((c.tc : Thread Cert.Kernel5Ideal.nD Cert.Kernel5Ideal.τ).loc Cert.Kernel5Ideal.main_arg8)
      ∧ m' ((c.tc : Thread Cert.Reference5Ideal.nD Cert.Reference5Ideal.τ).loc Cert.Reference5Ideal.main_arg9) = m ((c.tc : Thread Cert.Kernel5Ideal.nD Cert.Kernel5Ideal.τ).loc Cert.Kernel5Ideal.main_arg9)) →
    ∃ (v0 : (c : Dev Cert.Kernel5Ideal.nD) → Buf (Elt Ideal) ((c.tc : Thread Cert.Kernel5Ideal.nD Cert.Kernel5Ideal.τ).loc Cert.Kernel5Ideal.main_v14)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v14) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
          ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
          ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
          ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v35) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6)
          ∧ r.2.mem ((c.tc : Thread Cert.Reference5Ideal.nD Cert.Reference5Ideal.τ).loc Cert.Reference5Ideal.main_arg7) = m' ((c.tc : Thread Cert.Reference5Ideal.nD Cert.Reference5Ideal.τ).loc Cert.Reference5Ideal.main_arg7)
          ∧ r.2.mem ((c.tc : Thread Cert.Reference5Ideal.nD Cert.Reference5Ideal.τ).loc Cert.Reference5Ideal.main_arg8) = m' ((c.tc : Thread Cert.Reference5Ideal.nD Cert.Reference5Ideal.τ).loc Cert.Reference5Ideal.main_arg8)
          ∧ r.2.mem ((c.tc : Thread Cert.Reference5Ideal.nD Cert.Reference5Ideal.τ).loc Cert.Reference5Ideal.main_arg9) = m' ((c.tc : Thread Cert.Reference5Ideal.nD Cert.Reference5Ideal.τ).loc Cert.Reference5Ideal.main_arg9))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
-- ==== Pre_finite.lean ====
abbrev S1x16384x2x4x64 : Shape := ⟨5, ![1, 16384, 2, 4, 64]⟩
abbrev S1x16384x2x64 : Shape := ⟨4, ![1, 16384, 2, 64]⟩
abbrev S_ : Shape := ⟨0, ![]⟩
abbrev S1x16384x2x1x64 : Shape := ⟨5, ![1, 16384, 2, 1, 64]⟩

class Facts : Prop where
  bcast_S_S1x16384x2x4x64 : S_.BroadcastsInDim S1x16384x2x4x64 (![] : Fin 0 → Fin S1x16384x2x4x64.rank)
  bcast_S1x16384x2x64_S1x16384x2x1x64_0_1_2_4 : S1x16384x2x64.BroadcastsInDim S1x16384x2x1x64 (![0, 1, 2, 4] : Fin 4 → Fin S1x16384x2x1x64.rank)
  bcast_S_S1x16384x2x1x64 : S_.BroadcastsInDim S1x16384x2x1x64 (![] : Fin 0 → Fin S1x16384x2x1x64.rank)
  bcast_S1x16384x2x1x64_S1x16384x2x4x64_0_1_2_3_4 : S1x16384x2x1x64.BroadcastsInDim S1x16384x2x4x64 (![0, 1, 2, 3, 4] : Fin 5 → Fin S1x16384x2x4x64.rank)

variable [Facts]

def fn {F : FTy → Type} [FloatOps F] (main_arg0 : FVec F S1x16384x2x4x64 .f32) (main_arg1 : FVec F S1x16384x2x64 .f32) (main_arg2 : FVec F S1x16384x2x64 .f32) : IVec S1x16384x2x4x64 1 :=
  let main_v0 : FVec F S1x16384x2x4x64 .f32 := Host.absf main_arg0
  let main_cst : FVec F S_ .f32 := constant S_ .f32 0x7F800000#32
  let main_v1 : FVec F S1x16384x2x4x64 .f32 := broadcastInDim S1x16384x2x4x64 ![] bcast_S_S1x16384x2x4x64 main_cst
  let main_v2 : IVec S1x16384x2x4x64 1 := cmpf .olt main_v0 main_v1
  let main_v3 : FVec F S1x16384x2x64 .f32 := Host.absf main_arg1
  let main_v4 : FVec F S1x16384x2x1x64 .f32 := broadcastInDim S1x16384x2x1x64 ![0, 1, 2, 4] bcast_S1x16384x2x64_S1x16384x2x1x64_0_1_2_4 main_v3
  let main_cst_0 : FVec F S_ .f32 := constant S_ .f32 0x7F800000#32
  let main_v5 : FVec F S1x16384x2x1x64 .f32 := broadcastInDim S1x16384x2x1x64 ![] bcast_S_S1x16384x2x1x64 main_cst_0
  let main_v6 : IVec S1x16384x2x1x64 1 := cmpf .olt main_v4 main_v5
  let main_v7 : IVec S1x16384x2x4x64 1 := broadcastInDim S1x16384x2x4x64 ![0, 1, 2, 3, 4] bcast_S1x16384x2x1x64_S1x16384x2x4x64_0_1_2_3_4 main_v6
  let main_v8 : IVec S1x16384x2x4x64 1 := andi main_v2 main_v7
  main_v8
-- ==== Kernel.lean ====
abbrev S1x16384x2x4x64 : Shape := ⟨5, ![1, 16384, 2, 4, 64]⟩
abbrev S1x16384x2x64 : Shape := ⟨4, ![1, 16384, 2, 64]⟩
abbrev S_ : Shape := ⟨0, ![]⟩
abbrev S16384x8x64 : Shape := ⟨3, ![16384, 8, 64]⟩
abbrev S16384x4x64 : Shape := ⟨3, ![16384, 4, 64]⟩
abbrev S16384x4x128 : Shape := ⟨3, ![16384, 4, 128]⟩
abbrev S16384x8x128 : Shape := ⟨3, ![16384, 8, 128]⟩
abbrev S8x128x16384 : Shape := ⟨3, ![8, 128, 16384]⟩
abbrev S16384x128 : Shape := ⟨2, ![16384, 128]⟩
abbrev S16384x2x64 : Shape := ⟨3, ![16384, 2, 64]⟩
abbrev S2x64x16384 : Shape := ⟨3, ![2, 64, 16384]⟩
abbrev S2x16x16384 : Shape := ⟨3, ![2, 16, 16384]⟩
abbrev S2x80x16384 : Shape := ⟨3, ![2, 80, 16384]⟩
abbrev S512x16384 : Shape := ⟨2, ![512, 16384]⟩
abbrev S8x128x256 : Shape := ⟨3, ![8, 128, 256]⟩
abbrev S512x256 : Shape := ⟨2, ![512, 256]⟩
abbrev S2x8x512x256 : Shape := ⟨4, ![2, 8, 512, 256]⟩
abbrev S512x128 : Shape := ⟨2, ![512, 128]⟩
abbrev S1x128x256 : Shape := ⟨3, ![1, 128, 256]⟩
abbrev S128x256 : Shape := ⟨2, ![128, 256]⟩
abbrev S1x1x512x256 : Shape := ⟨4, ![1, 1, 512, 256]⟩
abbrev S8x512x256 : Shape := ⟨3, ![8, 512, 256]⟩
abbrev S1x8x512x256 : Shape := ⟨4, ![1, 8, 512, 256]⟩
abbrev S1x256 : Shape := ⟨2, ![1, 256]⟩
abbrev S80x256 : Shape := ⟨2, ![80, 256]⟩
abbrev S1x80x512 : Shape := ⟨3, ![1, 80, 512]⟩
abbrev S80x512 : Shape := ⟨2, ![80, 512]⟩
abbrev S256 : Shape := ⟨1, ![256]⟩
abbrev S64x256 : Shape := ⟨2, ![64, 256]⟩

abbrev nBuf : Space → Nat
  | .hbm => 30
  | .vmem => 8
  | .smem => 0
  | _ => 0

abbrev bufTy : (tb : Table) → Fin (tcTables nBuf tb) → BufTy
  | .hbm, ⟨0, _⟩ => ⟨S1x16384x2x4x64, .f32⟩
  | .hbm, ⟨1, _⟩ => ⟨S1x16384x2x64, .f32⟩
  | .hbm, ⟨2, _⟩ => ⟨S1x16384x2x64, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S1x16384x2x4x64, .f32⟩
  | .hbm, ⟨8, _⟩ => ⟨S1x16384x2x4x64, .f32⟩
  | .hbm, ⟨9, _⟩ => ⟨S16384x8x64, .f32⟩
  | .hbm, ⟨10, _⟩ => ⟨S16384x4x64, .f32⟩
  | .hbm, ⟨11, _⟩ => ⟨S_, .i32⟩
  | .hbm, ⟨12, _⟩ => ⟨S_, .f32⟩
  | .hbm, ⟨13, _⟩ => ⟨S16384x4x128, .f32⟩
  | .hbm, ⟨14, _⟩ => ⟨S16384x4x64, .f32⟩
  | .hbm, ⟨15, _⟩ => ⟨S_, .i32⟩
  | .hbm, ⟨16, _⟩ => ⟨S_, .f32⟩
  | .hbm, ⟨17, _⟩ => ⟨S16384x4x128, .f32⟩
  | .hbm, ⟨18, _⟩ => ⟨S16384x8x128, .f32⟩
  | .hbm, ⟨19, _⟩ => ⟨S8x128x16384, .f32⟩
  | .hbm, ⟨20, _⟩ => ⟨S8x128x16384, .bf16⟩
  | .hbm, ⟨21, _⟩ => ⟨S16384x128, .f32⟩
  | .hbm, ⟨22, _⟩ => ⟨S16384x128, .bf16⟩
  | .hbm, ⟨23, _⟩ => ⟨S16384x2x64, .f32⟩
  | .hbm, ⟨24, _⟩ => ⟨S2x64x16384, .f32⟩
  | .hbm, ⟨25, _⟩ => ⟨S_, .f32⟩
  | .hbm, ⟨26, _⟩ => ⟨S2x16x16384, .f32⟩
  | .hbm, ⟨27, _⟩ => ⟨S2x80x16384, .f32⟩
  | .hbm, ⟨28, _⟩ => ⟨S2x80x16384, .bf16⟩
  | .hbm, ⟨29, _⟩ => ⟨S512x16384, .bf16⟩
  | .local _ .vmem, ⟨0, _⟩ => ⟨S8x128x256, .bf16⟩
  | .local _ .vmem, ⟨1, _⟩ => ⟨S8x128x256, .bf16⟩
  | .local _ .vmem, ⟨2, _⟩ => ⟨S16384x128, .bf16⟩
  | .local _ .vmem, ⟨3, _⟩ => ⟨S2x80x16384, .bf16⟩
  | .local _ .vmem, ⟨4, _⟩ => ⟨S512x256, .bf16⟩
  | .local _ .vmem, ⟨5, _⟩ => ⟨S512x256, .bf16⟩
  | .local _ .vmem, ⟨6, _⟩ => ⟨S2x8x512x256, .f32⟩
  | .local _ .vmem, ⟨7, _⟩ => ⟨S2x8x512x256, .bf16⟩
  | _, _ => ⟨S1x16384x2x4x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_c : Ref sig .tc := ⟨.hbm, 11, rfl⟩
abbrev main_call0_v0 : Ref sig .tc := ⟨.hbm, 12, rfl⟩
abbrev main_v6 : Ref sig .tc := ⟨.hbm, 13, rfl⟩
abbrev main_v7 : Ref sig .tc := ⟨.hbm, 14, rfl⟩
abbrev main_c_1 : Ref sig .tc := ⟨.hbm, 15, rfl⟩
abbrev main_call1_v0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_2 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_scratch1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![1, 64], ![false, false]⟩

def k0_mult1 : BitVec 32 :=
  let c0_i32 : BitVec 32 := 0#32
  c0_i32
@[reducible] def k0_t1_loop : Scf.Loop 32 :=
  let c0_i32_64 : BitVec 32 := 0#32
  let c16_i32 : BitVec 32 := 16#32
  let v59 : BitVec 32 := Scalar.addi c0_i32_64 c16_i32
  let c1_i32 : BitVec 32 := 1#32
  ⟨c0_i32_64, v59, c1_i32⟩
def k0_mult2 (k0_t1 : Fin k0_t1_loop.trips) : BitVec 32 :=
  let c2_i32 : BitVec 32 := 2#32
  let c0_i32_64 : BitVec 32 := 0#32
  let c1_i32 : BitVec 32 := 1#32
  let arg8 : BitVec 32 := Scf.iv c0_i32_64 c1_i32 k0_t1
  let v164 : BitVec 32 := Scalar.muli c2_i32 arg8
  let c1_i32_121 : BitVec 32 := 1#32
  let v167 : BitVec 32 := Scalar.addi v164 c1_i32_121
  let c512_i32 : BitVec 32 := 512#32
  let v168 : BitVec 32 := Scalar.muli v167 c512_i32
  v168
def k0_off1 (k0_t1 : Fin k0_t1_loop.trips) : Fin 2 → Nat :=
  let c2_i32 : BitVec 32 := 2#32
  let c0_i32_64 : BitVec 32 := 0#32
  let c1_i32 : BitVec 32 := 1#32
  let arg8 : BitVec 32 := Scf.iv c0_i32_64 c1_i32 k0_t1
  let v164 : BitVec 32 := Scalar.muli c2_i32 arg8
  let c1_i32_121 : BitVec 32 := 1#32
  let v167 : BitVec 32 := Scalar.addi v164 c1_i32_121
  let c512_i32 : BitVec 32 := 512#32
  let v168 : BitVec 32 := Scalar.muli v167 c512_i32
  let v169 : BitVec 32 := v168
  let v170 : Index := Scalar.indexCast v169
  let c0_122 : Index := 0#32
  ![v170.toNat, 0]
def k0_mult3 (k0_t1 : Fin k0_t1_loop.trips) : BitVec 32 :=
  let c2_i32 : BitVec 32 := 2#32
  let c0_i32_64 : BitVec 32 := 0#32
  let c1_i32 : BitVec 32 := 1#32
  let arg8 : BitVec 32 := Scf.iv c0_i32_64 c1_i32 k0_t1
  let v164 : BitVec 32 := Scalar.muli c2_i32 arg8
  let c1_i32_119 : BitVec 32 := 1#32
  let v165 : BitVec 32 := Scalar.subi v164 c1_i32_119
  let c0_i32_120 : BitVec 32 := 0#32
  let v166 : BitVec 32 := Scalar.maxsi v165 c0_i32_120
  let c512_i32_123 : BitVec 32 := 512#32
  let v173 : BitVec 32 := Scalar.muli v166 c512_i32_123
  v173
def k0_off2 (k0_t1 : Fin k0_t1_loop.trips) : Fin 3 → Nat :=
  let c0_124 : Index := 0#32
  let c0_125 : Index := 0#32
  let c2_i32 : BitVec 32 := 2#32
  let c0_i32_64 : BitVec 32 := 0#32
  let c1_i32 : BitVec 32 := 1#32
  let arg8 : BitVec 32 := Scf.iv c0_i32_64 c1_i32 k0_t1
  let v164 : BitVec 32 := Scalar.muli c2_i32 arg8
  let c1_i32_119 : BitVec 32 := 1#32
  let v165 : BitVec 32 := Scalar.subi v164 c1_i32_119
  let c0_i32_120 : BitVec 32 := 0#32
  let v166 : BitVec 32 := Scalar.maxsi v165 c0_i32_120
  let c512_i32_123 : BitVec 32 := 512#32
  let v173 : BitVec 32 := Scalar.muli v166 c512_i32_123
  let v174 : BitVec 32 := v173
  let v175 : Index := Scalar.indexCast v174
  ![0, 0, v175.toNat]
def k0_off3 (k0_t1 : Fin k0_t1_loop.trips) : Fin 3 → Nat :=
  let c1_126 : Index := 1#32
  let c0_127 : Index := 0#32
  let c2_i32 : BitVec 32 := 2#32
  let c0_i32_64 : BitVec 32 := 0#32
  let c1_i32 : BitVec 32 := 1#32
  let arg8 : BitVec 32 := Scf.iv c0_i32_64 c1_i32 k0_t1
  let v164 : BitVec 32 := Scalar.muli c2_i32 arg8
  let c1_i32_119 : BitVec 32 := 1#32
  let v165 : BitVec 32 := Scalar.subi v164 c1_i32_119
  let c0_i32_120 : BitVec 32 := 0#32
  let v166 : BitVec 32 := Scalar.maxsi v165 c0_i32_120
  let c512_i32_123 : BitVec 32 := 512#32
  let v173 : BitVec 32 := Scalar.muli v166 c512_i32_123
  let v174 : BitVec 32 := v173
  let v178 : Index := Scalar.indexCast v174
  ![1, 0, v178.toNat]
def k0_mult4 (k0_t1 : Fin k0_t1_loop.trips) : BitVec 32 :=
  let c2_i32 : BitVec 32 := 2#32
  let c0_i32_64 : BitVec 32 := 0#32
  let c1_i32 : BitVec 32 := 1#32
  let arg8 : BitVec 32 := Scf.iv c0_i32_64 c1_i32 k0_t1
  let v164 : BitVec 32 := Scalar.muli c2_i32 arg8
  let c2_i32_304 : BitVec 32 := 2#32
  let v389 : BitVec 32 := Scalar.addi v164 c2_i32_304
  let c31_i32 : BitVec 32 := 31#32
  let v390 : BitVec 32 := Scalar.minsi v389 c31_i32
  let c512_i32_305 : BitVec 32 := 512#32
  let v391 : BitVec 32 := Scalar.muli v390 c512_i32_305
  v391
def k0_off4 (k0_t1 : Fin k0_t1_loop.trips) : Fin 2 → Nat :=
  let c2_i32 : BitVec 32 := 2#32
  let c0_i32_64 : BitVec 32 := 0#32
  let c1_i32 : BitVec 32 := 1#32
  let arg8 : BitVec 32 := Scf.iv c0_i32_64 c1_i32 k0_t1
  let v164 : BitVec 32 := Scalar.muli c2_i32 arg8
  let c2_i32_304 : BitVec 32 := 2#32
  let v389 : BitVec 32 := Scalar.addi v164 c2_i32_304
  let c31_i32 : BitVec 32 := 31#32
  let v390 : BitVec 32 := Scalar.minsi v389 c31_i32
  let c512_i32_305 : BitVec 32 := 512#32
  let v391 : BitVec 32 := Scalar.muli v390 c512_i32_305
  let v392 : BitVec 32 := v391
  let v393 : Index := Scalar.indexCast v392
  let c0_306 : Index := 0#32
  ![v393.toNat, 0]
def k0_mult5 (k0_t1 : Fin k0_t1_loop.trips) : BitVec 32 :=
  let c2_i32 : BitVec 32 := 2#32
  let c0_i32_64 : BitVec 32 := 0#32
  let c1_i32 : BitVec 32 := 1#32
  let arg8 : BitVec 32 := Scf.iv c0_i32_64 c1_i32 k0_t1
  let v164 : BitVec 32 := Scalar.muli c2_i32 arg8
  let c512_i32_307 : BitVec 32 := 512#32
  let v396 : BitVec 32 := Scalar.muli v164 c512_i32_307
  v396
def k0_off5 (k0_t1 : Fin k0_t1_loop.trips) : Fin 3 → Nat :=
  let c0_308 : Index := 0#32
  let c0_309 : Index := 0#32
  let c2_i32 : BitVec 32 := 2#32
  let c0_i32_64 : BitVec 32 := 0#32
  let c1_i32 : BitVec 32 := 1#32
  let arg8 : BitVec 32 := Scf.iv c0_i32_64 c1_i32 k0_t1
  let v164 : BitVec 32 := Scalar.muli c2_i32 arg8
  let c512_i32_307 : BitVec 32 := 512#32
  let v396 : BitVec 32 := Scalar.muli v164 c512_i32_307
  let v397 : BitVec 32 := v396
  let v398 : Index := Scalar.indexCast v397
  ![0, 0, v398.toNat]
def k0_off6 (k0_t1 : Fin k0_t1_loop.trips) : Fin 3 → Nat :=
  let c1_310 : Index := 1#32
  let c0_311 : Index := 0#32
  let c2_i32 : BitVec 32 := 2#32
  let c0_i32_64 : BitVec 32 := 0#32
  let c1_i32 : BitVec 32 := 1#32
  let arg8 : BitVec 32 := Scf.iv c0_i32_64 c1_i32 k0_t1
  let v164 : BitVec 32 := Scalar.muli c2_i32 arg8
  let c512_i32_307 : BitVec 32 := 512#32
  let v396 : BitVec 32 := Scalar.muli v164 c512_i32_307
  let v397 : BitVec 32 := v396
  let v401 : Index := Scalar.indexCast v397
  ![1, 0, v401.toNat]
def k0_mult6 : BitVec 32 :=
  let c15872_i32 : BitVec 32 := 15872#32
  c15872_i32
def cc0_transform_0 (i : grid0.Coords) : Fin 3 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : BitVec 32 := Scalar.addi v0 arg1
  let c0_i32 : BitVec 32 := 0#32
  let c0_i32_0 : BitVec 32 := 0#32
  let c0_i32_1 : BitVec 32 := 0#32
  ![c0_i32.toNat, c0_i32_0.toNat, v1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_3 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : BitVec 32 := Scalar.addi v0 arg1
  let c0_i32 : BitVec 32 := 0#32
  let c0_i32_0 : BitVec 32 := 0#32
  ![c0_i32.toNat, v1.toNat]

abbrev stage0_0 : Fin 2 → Memref sig .tc .vmem S8x128x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S16384x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 1 → Memref sig .tc .vmem S2x80x16384 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 2 → Memref sig .tc .vmem S512x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ReferenceIdeal.lean ====
abbrev S1x16384x2x4x64 : Shape := ⟨5, ![1, 16384, 2, 4, 64]⟩
abbrev S1x16384x2x64 : Shape := ⟨4, ![1, 16384, 2, 64]⟩
abbrev S1x2x16384x16384x4 : Shape := ⟨5, ![1, 2, 16384, 16384, 4]⟩
abbrev S1x2x4x16384x16384 : Shape := ⟨5, ![1, 2, 4, 16384, 16384]⟩
abbrev S_ : Shape := ⟨0, ![]⟩
abbrev S1x2x4x16384 : Shape := ⟨4, ![1, 2, 4, 16384]⟩
abbrev S1x2x4x16384x1 : Shape := ⟨5, ![1, 2, 4, 16384, 1]⟩
abbrev S1x2x64x4x16384 : Shape := ⟨5, ![1, 2, 64, 4, 16384]⟩
abbrev S16384x512 : Shape := ⟨2, ![16384, 512]⟩
abbrev S512x16384 : Shape := ⟨2, ![512, 16384]⟩

abbrev nBuf : Space → Nat
  | .hbm => 27
  | .vmem => 0
  | .smem => 0
  | _ => 0

abbrev bufTy : (tb : Table) → Fin (tcTables nBuf tb) → BufTy
  | .hbm, ⟨0, _⟩ => ⟨S1x16384x2x4x64, .f32⟩
  | .hbm, ⟨1, _⟩ => ⟨S1x16384x2x64, .f32⟩
  | .hbm, ⟨2, _⟩ => ⟨S1x16384x2x64, .f32⟩
  | .hbm, ⟨3, _⟩ => ⟨S1x2x16384x16384x4, .f32⟩
  | .hbm, ⟨4, _⟩ => ⟨S1x2x4x16384x16384, .f32⟩
  | .hbm, ⟨5, _⟩ => ⟨S_, .f32⟩
  | .hbm, ⟨6, _⟩ => ⟨S1x2x4x16384x16384, .f32⟩
  | .hbm, ⟨7, _⟩ => ⟨S1x2x4x16384x16384, .f32⟩
  | .hbm, ⟨8, _⟩ => ⟨S_, .f32⟩
  | .hbm, ⟨9, _⟩ => ⟨S1x2x4x16384, .f32⟩
  | .hbm, ⟨10, _⟩ => ⟨S_, .f32⟩
  | .hbm, ⟨11, _⟩ => ⟨S1x2x4x16384, .f32⟩
  | .hbm, ⟨12, _⟩ => ⟨S1x2x4x16384, .f32⟩
  | .hbm, ⟨13, _⟩ => ⟨S1x2x4x16384x1, .f32⟩
  | .hbm, ⟨14, _⟩ => ⟨S1x2x4x16384x16384, .f32⟩
  | .hbm, ⟨15, _⟩ => ⟨S1x2x4x16384x16384, .f32⟩
  | .hbm, ⟨16, _⟩ => ⟨S1x2x4x16384x16384, .f32⟩
  | .hbm, ⟨17, _⟩ => ⟨S_, .f32⟩
  | .hbm, ⟨18, _⟩ => ⟨S1x2x4x16384, .f32⟩
  | .hbm, ⟨19, _⟩ => ⟨S1x2x4x16384x1, .f32⟩
  | .hbm, ⟨20, _⟩ => ⟨S1x2x4x16384x16384, .f32⟩
  | .hbm, ⟨21, _⟩ => ⟨S1x2x4x16384x16384, .f32⟩
  | .hbm, ⟨22, _⟩ => ⟨S1x2x64x4x16384, .f32⟩
  | .hbm, ⟨23, _⟩ => ⟨S1x16384x2x4x64, .f32⟩
  | .hbm, ⟨24, _⟩ => ⟨S16384x512, .f32⟩
  | .hbm, ⟨25, _⟩ => ⟨S512x16384, .f32⟩
  | .hbm, ⟨26, _⟩ => ⟨S512x16384, .bf16⟩
  | _, _ => ⟨S1x16384x2x4x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_2 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩

abbrev nD : Nat := 1
abbrev τ : Topo := Topo.v7x

variable {F : FTy → Type} [FloatOps F]
-- ==== Kernel2.lean ====
abbrev S1x16384x1024 : Shape := ⟨3, ![1, 16384, 1024]⟩
abbrev S1024 : Shape := ⟨1, ![1024]⟩
abbrev S1024x2816 : Shape := ⟨2, ![1024, 2816]⟩
abbrev S2816x1024 : Shape := ⟨2, ![2816, 1024]⟩
abbrev S16384x1024 : Shape := ⟨2, ![16384, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩
abbrev S1024x1408 : Shape := ⟨2, ![1024, 1408]⟩
abbrev S512x1408 : Shape := ⟨2, ![512, 1408]⟩
abbrev S1408x1024 : Shape := ⟨2, ![1408, 1024]⟩

abbrev nBuf : Space → Nat
  | .hbm => 11
  | .vmem => 8
  | .smem => 0
  | _ => 0

abbrev bufTy : (tb : Table) → Fin (tcTables nBuf tb) → BufTy
  | .hbm, ⟨0, _⟩ => ⟨S1x16384x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S16384x1024, .f32⟩
  | .hbm, ⟨6, _⟩ => ⟨S1x1024, .f32⟩
  | .hbm, ⟨7, _⟩ => ⟨S1024x2816, .bf16⟩
  | .hbm, ⟨8, _⟩ => ⟨S1024x2816, .bf16⟩
  | .hbm, ⟨9, _⟩ => ⟨S2816x1024, .bf16⟩
  | .hbm, ⟨10, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x2816, .bf16⟩
  | .local _ .vmem, ⟨4, _⟩ => ⟨S1024x2816, .bf16⟩
  | .local _ .vmem, ⟨5, _⟩ => ⟨S2816x1024, .bf16⟩
  | .local _ .vmem, ⟨6, _⟩ => ⟨S512x1024, .f32⟩
  | .local _ .vmem, ⟨7, _⟩ => ⟨S512x1024, .f32⟩
  | _, _ => ⟨S1x16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2816 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x2816 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference2Ideal.lean ====
abbrev S1x16384x1024 : Shape := ⟨3, ![1, 16384, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩
abbrev S1x16384 : Shape := ⟨2, ![1, 16384]⟩
abbrev S1x16384x1 : Shape := ⟨3, ![1, 16384, 1]⟩
abbrev S1x1x1024 : Shape := ⟨3, ![1, 1, 1024]⟩
abbrev S1x16384x2816 : Shape := ⟨3, ![1, 16384, 2816]⟩
abbrev S16384x1024 : Shape := ⟨2, ![16384, 1024]⟩

abbrev nBuf : Space → Nat
  | .hbm => 36
  | .vmem => 0
  | .smem => 0
  | _ => 0

abbrev bufTy : (tb : Table) → Fin (tcTables nBuf tb) → BufTy
  | .hbm, ⟨0, _⟩ => ⟨S1x16384x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S1x16384x1024, .f32⟩
  | .hbm, ⟨6, _⟩ => ⟨S_, .f32⟩
  | .hbm, ⟨7, _⟩ => ⟨S1x16384, .f32⟩
  | .hbm, ⟨8, _⟩ => ⟨S1x16384x1, .f32⟩
  | .hbm, ⟨9, _⟩ => ⟨S_, .f32⟩
  | .hbm, ⟨10, _⟩ => ⟨S1x16384x1, .f32⟩
  | .hbm, ⟨11, _⟩ => ⟨S1x16384x1, .f32⟩
  | .hbm, ⟨12, _⟩ => ⟨S_, .f32⟩
  | .hbm, ⟨13, _⟩ => ⟨S1x16384x1, .f32⟩
  | .hbm, ⟨14, _⟩ => ⟨S1x16384x1, .f32⟩
  | .hbm, ⟨15, _⟩ => ⟨S1x16384x1, .f32⟩
  | .hbm, ⟨16, _⟩ => ⟨S1x16384x1024, .f32⟩
  | .hbm, ⟨17, _⟩ => ⟨S1x16384x1024, .f32⟩
  | .hbm, ⟨18, _⟩ => ⟨S1x1x1024, .f32⟩
  | .hbm, ⟨19, _⟩ => ⟨S1x16384x1024, .f32⟩
  | .hbm, ⟨20, _⟩ => ⟨S1x16384x1024, .f32⟩
  | .hbm, ⟨21, _⟩ => ⟨S1x16384x2816, .f32⟩
  | .hbm, ⟨22, _⟩ => ⟨S1x16384x2816, .f32⟩
  | .hbm, ⟨23, _⟩ => ⟨S1x16384x2816, .f32⟩
  | .hbm, ⟨24, _⟩ => ⟨S_, .f32⟩
  | .hbm, ⟨25, _⟩ => ⟨S1x16384x2816, .f32⟩
  | .hbm, ⟨26, _⟩ => ⟨S1x16384x2816, .f32⟩
  | .hbm, ⟨27, _⟩ => ⟨S_, .f32⟩
  | .hbm, ⟨28, _⟩ => ⟨S1x16384x2816, .f32⟩
  | .hbm, ⟨29, _⟩ => ⟨S1x16384x2816, .f32⟩
  | .hbm, ⟨30, _⟩ => ⟨S1x16384x2816, .f32⟩
  | .hbm, ⟨31, _⟩ => ⟨S1x16384x2816, .f32⟩
  | .hbm, ⟨32, _⟩ => ⟨S1x16384x2816, .f32⟩
  | .hbm, ⟨33, _⟩ => ⟨S1x16384x1024, .f32⟩
  | .hbm, ⟨34, _⟩ => ⟨S1x16384x1024, .f32⟩
  | .hbm, ⟨35, _⟩ => ⟨S16384x1024, .f32⟩
  | _, _ => ⟨S1x16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_call0_v0 : Ref sig .tc := ⟨.hbm, 22, rfl⟩
abbrev main_call0_v1 : Ref sig .tc := ⟨.hbm, 23, rfl⟩
abbrev main_call0_cst : Ref sig .tc := ⟨.hbm, 24, rfl⟩
abbrev main_call0_v2 : Ref sig .tc := ⟨.hbm, 25, rfl⟩
abbrev main_call0_v3 : Ref sig .tc := ⟨.hbm, 26, rfl⟩
abbrev main_call0_cst_0 : Ref sig .tc := ⟨.hbm, 27, rfl⟩
abbrev main_call0_v4 : Ref sig .tc := ⟨.hbm, 28, rfl⟩
abbrev main_call0_v5 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩

abbrev nD : Nat := 1
abbrev τ : Topo := Topo.v7x

variable {F : FTy → Type} [FloatOps F]
-- ==== Kernel3.lean ====
abbrev S1x16384x1024 : Shape := ⟨3, ![1, 16384, 1024]⟩
abbrev S1024 : Shape := ⟨1, ![1024]⟩
abbrev S16384x1024 : Shape := ⟨2, ![16384, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 5
  | .vmem => 5
  | .smem => 0
  | _ => 0

abbrev bufTy : (tb : Table) → Fin (tcTables nBuf tb) → BufTy
  | .hbm, ⟨0, _⟩ => ⟨S1x16384x1024, .f32⟩
  | .hbm, ⟨1, _⟩ => ⟨S1024, .f32⟩
  | .hbm, ⟨2, _⟩ => ⟨S16384x1024, .f32⟩
  | .hbm, ⟨3, _⟩ => ⟨S1x1024, .f32⟩
  | .hbm, ⟨4, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .f32⟩
  | .local _ .vmem, ⟨4, _⟩ => ⟨S512x1024, .f32⟩
  | _, _ => ⟨S1x16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference3Ideal.lean ====
abbrev S1x16384x1024 : Shape := ⟨3, ![1, 16384, 1024]⟩
abbrev S1024 : Shape := ⟨1, ![1024]⟩
abbrev S_ : Shape := ⟨0, ![]⟩
abbrev S1x16384 : Shape := ⟨2, ![1, 16384]⟩
abbrev S1x16384x1 : Shape := ⟨3, ![1, 16384, 1]⟩
abbrev S1x1x1024 : Shape := ⟨3, ![1, 1, 1024]⟩
abbrev S16384x1024 : Shape := ⟨2, ![16384, 1024]⟩

abbrev nBuf : Space → Nat
  | .hbm => 19
  | .vmem => 0
  | .smem => 0
  | _ => 0

abbrev bufTy : (tb : Table) → Fin (tcTables nBuf tb) → BufTy
  | .hbm, ⟨0, _⟩ => ⟨S1x16384x1024, .f32⟩
  | .hbm, ⟨1, _⟩ => ⟨S1024, .f32⟩
  | .hbm, ⟨2, _⟩ => ⟨S1x16384x1024, .f32⟩
  | .hbm, ⟨3, _⟩ => ⟨S_, .f32⟩
  | .hbm, ⟨4, _⟩ => ⟨S1x16384, .f32⟩
  | .hbm, ⟨5, _⟩ => ⟨S1x16384x1, .f32⟩
  | .hbm, ⟨6, _⟩ => ⟨S_, .f32⟩
  | .hbm, ⟨7, _⟩ => ⟨S1x16384x1, .f32⟩
  | .hbm, ⟨8, _⟩ => ⟨S1x16384x1, .f32⟩
  | .hbm, ⟨9, _⟩ => ⟨S_, .f32⟩
  | .hbm, ⟨10, _⟩ => ⟨S1x16384x1, .f32⟩
  | .hbm, ⟨11, _⟩ => ⟨S1x16384x1, .f32⟩
  | .hbm, ⟨12, _⟩ => ⟨S1x16384x1, .f32⟩
  | .hbm, ⟨13, _⟩ => ⟨S1x16384x1024, .f32⟩
  | .hbm, ⟨14, _⟩ => ⟨S1x16384x1024, .f32⟩
  | .hbm, ⟨15, _⟩ => ⟨S1x1x1024, .f32⟩
  | .hbm, ⟨16, _⟩ => ⟨S1x16384x1024, .f32⟩
  | .hbm, ⟨17, _⟩ => ⟨S1x16384x1024, .f32⟩
  | .hbm, ⟨18, _⟩ => ⟨S16384x1024, .f32⟩
  | _, _ => ⟨S1x16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== Kernel4.lean ====
abbrev S1x16384x1024 : Shape := ⟨3, ![1, 16384, 1024]⟩
abbrev S1024 : Shape := ⟨1, ![1024]⟩
abbrev S1024x6944 : Shape := ⟨2, ![1024, 6944]⟩
abbrev S1024x512 : Shape := ⟨2, ![1024, 512]⟩
abbrev S1024x128 : Shape := ⟨2, ![1024, 128]⟩
abbrev S1024x1536 : Shape := ⟨2, ![1024, 1536]⟩
abbrev S1024x256 : Shape := ⟨2, ![1024, 256]⟩
abbrev S1024x32 : Shape := ⟨2, ![1024, 32]⟩
abbrev S1024x3072 : Shape := ⟨2, ![1024, 3072]⟩
abbrev S_ : Shape := ⟨0, ![]⟩
abbrev S1024x224 : Shape := ⟨2, ![1024, 224]⟩
abbrev S1024x4096 : Shape := ⟨2, ![1024, 4096]⟩
abbrev S16384x1024 : Shape := ⟨2, ![16384, 1024]⟩
abbrev S1x1024 : Shape := ⟨2, ![1, 1024]⟩
abbrev S16384x4096 : Shape := ⟨2, ![16384, 4096]⟩
abbrev S16384x3072 : Shape := ⟨2, ![16384, 3072]⟩
abbrev S512x1024 : Shape := ⟨2, ![512, 1024]⟩
abbrev S512x4096 : Shape := ⟨2, ![512, 4096]⟩
abbrev S512x3072 : Shape := ⟨2, ![512, 3072]⟩
abbrev S512 : Shape := ⟨1, ![512]⟩
abbrev S512x1 : Shape := ⟨2, ![512, 1]⟩
abbrev S1024x1024 : Shape := ⟨2, ![1024, 1024]⟩

abbrev nBuf : Space → Nat
  | .hbm => 21
  | .vmem => 9
  | .smem => 0
  | _ => 0

abbrev bufTy : (tb : Table) → Fin (tcTables nBuf tb) → BufTy
  | .hbm, ⟨0, _⟩ => ⟨S1x16384x1024, .f32⟩
  | .hbm, ⟨1, _⟩ => ⟨S1024, .f32⟩
  | .hbm, ⟨2, _⟩ => ⟨S1024x6944, .f32⟩
  | .hbm, ⟨3, _⟩ => ⟨S1024x6944, .bf16⟩
  | .hbm, ⟨4, _⟩ => ⟨S1024x512, .bf16⟩
  | .hbm, ⟨5, _⟩ => ⟨S1024x128, .bf16⟩
  | .hbm, ⟨6, _⟩ => ⟨S1024x128, .bf16⟩
  | .hbm, ⟨7, _⟩ => ⟨S1024x1536, .bf16⟩
  | .hbm, ⟨8, _⟩ => ⟨S1024x256, .bf16⟩
  | .hbm, ⟨9, _⟩ => ⟨S1024x256, .bf16⟩
  | .hbm, ⟨10, _⟩ => ⟨S1024x512, .bf16⟩
  | .hbm, ⟨11, _⟩ => ⟨S1024x512, .bf16⟩
  | .hbm, ⟨12, _⟩ => ⟨S1024x32, .bf16⟩
  | .hbm, ⟨13, _⟩ => ⟨S1024x3072, .bf16⟩
  | .hbm, ⟨14, _⟩ => ⟨S_, .bf16⟩
  | .hbm, ⟨15, _⟩ => ⟨S1024x224, .bf16⟩
  | .hbm, ⟨16, _⟩ => ⟨S1024x4096, .bf16⟩
  | .hbm, ⟨17, _⟩ => ⟨S16384x1024, .f32⟩
  | .hbm, ⟨18, _⟩ => ⟨S1x1024, .f32⟩
  | .hbm, ⟨19, _⟩ => ⟨S16384x4096, .f32⟩
  | .hbm, ⟨20, _⟩ => ⟨S16384x3072, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x4096, .bf16⟩
  | .local _ .vmem, ⟨4, _⟩ => ⟨S1024x3072, .bf16⟩
  | .local _ .vmem, ⟨5, _⟩ => ⟨S512x4096, .f32⟩
  | .local _ .vmem, ⟨6, _⟩ => ⟨S512x4096, .f32⟩
  | .local _ .vmem, ⟨7, _⟩ => ⟨S512x3072, .bf16⟩
  | .local _ .vmem, ⟨8, _⟩ => ⟨S512x3072, .bf16⟩
  | _, _ => ⟨S1x16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_cst : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15_0 : Ref sig .tc := ⟨.hbm, 19, rfl⟩
abbrev main_v15_1 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x4096 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x3072 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x3072 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference4Ideal.lean ====
abbrev S1x16384x1024 : Shape := ⟨3, ![1, 16384, 1024]⟩
abbrev S1024 : Shape := ⟨1, ![1024]⟩
abbrev S1024x6944 : Shape := ⟨2, ![1024, 6944]⟩
abbrev S_ : Shape := ⟨0, ![]⟩
abbrev S1x16384 : Shape := ⟨2, ![1, 16384]⟩
abbrev S1x16384x1 : Shape := ⟨3, ![1, 16384, 1]⟩
abbrev S1x1x1024 : Shape := ⟨3, ![1, 1, 1024]⟩
abbrev S1x16384x6944 : Shape := ⟨3, ![1, 16384, 6944]⟩
abbrev S1x16384x512 : Shape := ⟨3, ![1, 16384, 512]⟩
abbrev S1x16384x128 : Shape := ⟨3, ![1, 16384, 128]⟩
abbrev S1x16384x1536 : Shape := ⟨3, ![1, 16384, 1536]⟩
abbrev S1x16384x256 : Shape := ⟨3, ![1, 16384, 256]⟩
abbrev S1x16384x32 : Shape := ⟨3, ![1, 16384, 32]⟩
abbrev S1x16384x3072 : Shape := ⟨3, ![1, 16384, 3072]⟩
abbrev S1x16384x224 : Shape := ⟨3, ![1, 16384, 224]⟩
abbrev S1x16384x4096 : Shape := ⟨3, ![1, 16384, 4096]⟩
abbrev S16384x4096 : Shape := ⟨2, ![16384, 4096]⟩
abbrev S16384x3072 : Shape := ⟨2, ![16384, 3072]⟩

abbrev nBuf : Space → Nat
  | .hbm => 36
  | .vmem => 0
  | .smem => 0
  | _ => 0

abbrev bufTy : (tb : Table) → Fin (tcTables nBuf tb) → BufTy
  | .hbm, ⟨0, _⟩ => ⟨S1x16384x1024, .f32⟩
  | .hbm, ⟨1, _⟩ => ⟨S1024, .f32⟩
  | .hbm, ⟨2, _⟩ => ⟨S1024x6944, .f32⟩
  | .hbm, ⟨3, _⟩ => ⟨S1x16384x1024, .f32⟩
  | .hbm, ⟨4, _⟩ => ⟨S_, .f32⟩
  | .hbm, ⟨5, _⟩ => ⟨S1x16384, .f32⟩
  | .hbm, ⟨6, _⟩ => ⟨S1x16384x1, .f32⟩
  | .hbm, ⟨7, _⟩ => ⟨S_, .f32⟩
  | .hbm, ⟨8, _⟩ => ⟨S1x16384x1, .f32⟩
  | .hbm, ⟨9, _⟩ => ⟨S1x16384x1, .f32⟩
  | .hbm, ⟨10, _⟩ => ⟨S_, .f32⟩
  | .hbm, ⟨11, _⟩ => ⟨S1x16384x1, .f32⟩
  | .hbm, ⟨12, _⟩ => ⟨S1x16384x1, .f32⟩
  | .hbm, ⟨13, _⟩ => ⟨S1x16384x1, .f32⟩
  | .hbm, ⟨14, _⟩ => ⟨S1x16384x1024, .f32⟩
  | .hbm, ⟨15, _⟩ => ⟨S1x16384x1024, .f32⟩
  | .hbm, ⟨16, _⟩ => ⟨S1x1x1024, .f32⟩
  | .hbm, ⟨17, _⟩ => ⟨S1x16384x1024, .f32⟩
  | .hbm, ⟨18, _⟩ => ⟨S1x16384x1024, .f32⟩
  | .hbm, ⟨19, _⟩ => ⟨S1x16384x6944, .f32⟩
  | .hbm, ⟨20, _⟩ => ⟨S1x16384x512, .f32⟩
  | .hbm, ⟨21, _⟩ => ⟨S1x16384x128, .f32⟩
  | .hbm, ⟨22, _⟩ => ⟨S1x16384x128, .f32⟩
  | .hbm, ⟨23, _⟩ => ⟨S1x16384x1536, .f32⟩
  | .hbm, ⟨24, _⟩ => ⟨S1x16384x256, .f32⟩
  | .hbm, ⟨25, _⟩ => ⟨S1x16384x256, .f32⟩
  | .hbm, ⟨26, _⟩ => ⟨S1x16384x512, .f32⟩
  | .hbm, ⟨27, _⟩ => ⟨S1x16384x512, .f32⟩
  | .hbm, ⟨28, _⟩ => ⟨S1x16384x32, .f32⟩
  | .hbm, ⟨29, _⟩ => ⟨S1x16384x3072, .f32⟩
  | .hbm, ⟨30, _⟩ => ⟨S_, .f32⟩
  | .hbm, ⟨31, _⟩ => ⟨S1x16384x224, .f32⟩
  | .hbm, ⟨32, _⟩ => ⟨S1x16384x4096, .f32⟩
  | .hbm, ⟨33, _⟩ => ⟨S16384x4096, .f32⟩
  | .hbm, ⟨34, _⟩ => ⟨S16384x3072, .f32⟩
  | .hbm, ⟨35, _⟩ => ⟨S16384x3072, .bf16⟩
  | _, _ => ⟨S1x16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_cst_2 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩

abbrev nD : Nat := 1
abbrev τ : Topo := Topo.v7x

variable {F : FTy → Type} [FloatOps F]
-- ==== Kernel5.lean ====
abbrev S1x16384x1024 : Shape := ⟨3, ![1, 16384, 1024]⟩
abbrev S1x16384x512 : Shape := ⟨3, ![1, 16384, 512]⟩
abbrev S1x16384x4x128 : Shape := ⟨4, ![1, 16384, 4, 128]⟩
abbrev S1x16384x3072 : Shape := ⟨3, ![1, 16384, 3072]⟩
abbrev S128 : Shape := ⟨1, ![128]⟩
abbrev S3x512x1024 : Shape := ⟨3, ![3, 512, 1024]⟩
abbrev S1024x1024 : Shape := ⟨2, ![1024, 1024]⟩
abbrev S16384x512 : Shape := ⟨2, ![16384, 512]⟩
abbrev S_ : Shape := ⟨0, ![]⟩
abbrev S16384x4096 : Shape := ⟨2, ![16384, 4096]⟩
abbrev S16384x1024 : Shape := ⟨2, ![16384, 1024]⟩
abbrev S512x16384 : Shape := ⟨2, ![512, 16384]⟩
abbrev S16384x3072 : Shape := ⟨2, ![16384, 3072]⟩
abbrev S1x128 : Shape := ⟨2, ![1, 128]⟩
abbrev S512x1024 : Shape := ⟨2, ![512, 1024]⟩
abbrev S512x512 : Shape := ⟨2, ![512, 512]⟩
abbrev S512x128 : Shape := ⟨2, ![512, 128]⟩
abbrev S512 : Shape := ⟨1, ![512]⟩
abbrev S512x1 : Shape := ⟨2, ![512, 1]⟩
abbrev S1x512x1024 : Shape := ⟨3, ![1, 512, 1024]⟩

abbrev nBuf : Space → Nat
  | .hbm => 27
  | .vmem => 23
  | .smem => 0
  | _ => 0

abbrev bufTy : (tb : Table) → Fin (tcTables nBuf tb) → BufTy
  | .hbm, ⟨0, _⟩ => ⟨S1x16384x1024, .f32⟩
  | .hbm, ⟨1, _⟩ => ⟨S1x16384x512, .f32⟩
  | .hbm, ⟨2, _⟩ => ⟨S1x16384x512, .f32⟩
  | .hbm, ⟨3, _⟩ => ⟨S1x16384x4x128, .f32⟩
  | .hbm, ⟨4, _⟩ => ⟨S1x16384x4x128, .f32⟩
  | .hbm, ⟨5, _⟩ => ⟨S1x16384x512, .f32⟩
  | .hbm, ⟨6, _⟩ => ⟨S1x16384x3072, .f32⟩
  | .hbm, ⟨7, _⟩ => ⟨S128, .f32⟩
  | .hbm, ⟨8, _⟩ => ⟨S3x512x1024, .f32⟩
  | .hbm, ⟨9, _⟩ => ⟨S1024x1024, .f32⟩
  | .hbm, ⟨10, _⟩ => ⟨S16384x512, .f32⟩
  | .hbm, ⟨11, _⟩ => ⟨S_, .i32⟩
  | .hbm, ⟨12, _⟩ => ⟨S_, .f32⟩
  | .hbm, ⟨13, _⟩ => ⟨S16384x4096, .f32⟩
  | .hbm, ⟨14, _⟩ => ⟨S16384x1024, .f32⟩
  | .hbm, ⟨15, _⟩ => ⟨S16384x512, .f32⟩
  | .hbm, ⟨16, _⟩ => ⟨S512x16384, .f32⟩
  | .hbm, ⟨17, _⟩ => ⟨S512x16384, .bf16⟩
  | .hbm, ⟨18, _⟩ => ⟨S16384x512, .f32⟩
  | .hbm, ⟨19, _⟩ => ⟨S16384x512, .f32⟩
  | .hbm, ⟨20, _⟩ => ⟨S16384x512, .f32⟩
  | .hbm, ⟨21, _⟩ => ⟨S16384x3072, .f32⟩
  | .hbm, ⟨22, _⟩ => ⟨S16384x3072, .bf16⟩
  | .hbm, ⟨23, _⟩ => ⟨S3x512x1024, .bf16⟩
  | .hbm, ⟨24, _⟩ => ⟨S1024x1024, .bf16⟩
  | .hbm, ⟨25, _⟩ => ⟨S1x128, .f32⟩
  | .hbm, ⟨26, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S512x512, .bf16⟩
  | .local _ .vmem, ⟨3, _⟩ => ⟨S512x512, .bf16⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S512x512, .f32⟩
  | .local _ .vmem, ⟨9, _⟩ => ⟨S512x512, .f32⟩
  | .local _ .vmem, ⟨10, _⟩ => ⟨S512x512, .f32⟩
  | .local _ .vmem, ⟨11, _⟩ => ⟨S512x512, .f32⟩
  | .local _ .vmem, ⟨12, _⟩ => ⟨S512x1024, .bf16⟩
  | .local _ .vmem, ⟨13, _⟩ => ⟨S512x1024, .bf16⟩
  | .local _ .vmem, ⟨14, _⟩ => ⟨S512x1024, .bf16⟩
  | .local _ .vmem, ⟨15, _⟩ => ⟨S512x1024, .bf16⟩
  | .local _ .vmem, ⟨16, _⟩ => ⟨S512x1024, .bf16⟩
  | .local _ .vmem, ⟨17, _⟩ => ⟨S512x1024, .bf16⟩
  | .local _ .vmem, ⟨18, _⟩ => ⟨S3x512x1024, .bf16⟩
  | .local _ .vmem, ⟨19, _⟩ => ⟨S1024x1024, .bf16⟩
  | .local _ .vmem, ⟨20, _⟩ => ⟨S1x128, .f32⟩
  | .local _ .vmem, ⟨21, _⟩ => ⟨S512x1024, .f32⟩
  | .local _ .vmem, ⟨22, _⟩ => ⟨S512x1024, .f32⟩
  | _, _ => ⟨S1x16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_c : Ref sig .tc := ⟨.hbm, 11, rfl⟩
abbrev main_call0_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg10_0 : Ref sig .tc := ⟨.vmem, 19, rfl⟩
abbrev cc0_stg11_0 : Ref sig .tc := ⟨.vmem, 20, rfl⟩
abbrev cc0_stg12_0 : Ref sig .tc := ⟨.vmem, 21, rfl⟩
abbrev cc0_stg12_1 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem10_0 : DmaSem sig := 19
abbrev cc0_sem11_0 : DmaSem sig := 20
abbrev cc0_sem12_0 : DmaSem sig := 21
abbrev cc0_sem12_1 : DmaSem sig := 22

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_8 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S3x512x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S512x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== Reference5Ideal.lean ====
abbrev S1x16384x1024 : Shape := ⟨3, ![1, 16384, 1024]⟩
abbrev S1x16384x512 : Shape := ⟨3, ![1, 16384, 512]⟩
abbrev S1x16384x4x128 : Shape := ⟨4, ![1, 16384, 4, 128]⟩
abbrev S1x16384x3072 : Shape := ⟨3, ![1, 16384, 3072]⟩
abbrev S128 : Shape := ⟨1, ![128]⟩
abbrev S3x512x1024 : Shape := ⟨3, ![3, 512, 1024]⟩
abbrev S1024x1024 : Shape := ⟨2, ![1024, 1024]⟩
abbrev S_ : Shape := ⟨0, ![]⟩
abbrev S1x16384x4 : Shape := ⟨3, ![1, 16384, 4]⟩
abbrev S1x16384x4x1 : Shape := ⟨4, ![1, 16384, 4, 1]⟩
abbrev S1x1x1x128 : Shape := ⟨4, ![1, 1, 1, 128]⟩
abbrev S1x16384x1x512 : Shape := ⟨4, ![1, 16384, 1, 512]⟩
abbrev S1x16384x3x512 : Shape := ⟨4, ![1, 16384, 3, 512]⟩
abbrev S3x1024x1x16384 : Shape := ⟨4, ![3, 1024, 1, 16384]⟩
abbrev S1x16384x3x1024 : Shape := ⟨4, ![1, 16384, 3, 1024]⟩
abbrev S16384x1024 : Shape := ⟨2, ![16384, 1024]⟩

abbrev nBuf : Space → Nat
  | .hbm => 60
  | .vmem => 0
  | .smem => 0
  | _ => 0

abbrev bufTy : (tb : Table) → Fin (tcTables nBuf tb) → BufTy
  | .hbm, ⟨0, _⟩ => ⟨S1x16384x1024, .f32⟩
  | .hbm, ⟨1, _⟩ => ⟨S1x16384x512, .f32⟩
  | .hbm, ⟨2, _⟩ => ⟨S1x16384x512, .f32⟩
  | .hbm, ⟨3, _⟩ => ⟨S1x16384x4x128, .f32⟩
  | .hbm, ⟨4, _⟩ => ⟨S1x16384x4x128, .f32⟩
  | .hbm, ⟨5, _⟩ => ⟨S1x16384x512, .f32⟩
  | .hbm, ⟨6, _⟩ => ⟨S1x16384x3072, .f32⟩
  | .hbm, ⟨7, _⟩ => ⟨S128, .f32⟩
  | .hbm, ⟨8, _⟩ => ⟨S3x512x1024, .f32⟩
  | .hbm, ⟨9, _⟩ => ⟨S1024x1024, .f32⟩
  | .hbm, ⟨10, _⟩ => ⟨S1x16384x4x128, .f32⟩
  | .hbm, ⟨11, _⟩ => ⟨S1x16384x4x128, .f32⟩
  | .hbm, ⟨12, _⟩ => ⟨S_, .f32⟩
  | .hbm, ⟨13, _⟩ => ⟨S1x16384x4, .f32⟩
  | .hbm, ⟨14, _⟩ => ⟨S1x16384x4x1, .f32⟩
  | .hbm, ⟨15, _⟩ => ⟨S_, .f32⟩
  | .hbm, ⟨16, _⟩ => ⟨S1x16384x4x1, .f32⟩
  | .hbm, ⟨17, _⟩ => ⟨S1x16384x4x1, .f32⟩
  | .hbm, ⟨18, _⟩ => ⟨S_, .f32⟩
  | .hbm, ⟨19, _⟩ => ⟨S1x16384x4x1, .f32⟩
  | .hbm, ⟨20, _⟩ => ⟨S1x16384x4x1, .f32⟩
  | .hbm, ⟨21, _⟩ => ⟨S1x16384x4x1, .f32⟩
  | .hbm, ⟨22, _⟩ => ⟨S1x16384x4x128, .f32⟩
  | .hbm, ⟨23, _⟩ => ⟨S1x16384x4x128, .f32⟩
  | .hbm, ⟨24, _⟩ => ⟨S1x1x1x128, .f32⟩
  | .hbm, ⟨25, _⟩ => ⟨S1x16384x4x128, .f32⟩
  | .hbm, ⟨26, _⟩ => ⟨S1x16384x4x128, .f32⟩
  | .hbm, ⟨27, _⟩ => ⟨S1x16384x512, .f32⟩
  | .hbm, ⟨28, _⟩ => ⟨S1x16384x512, .f32⟩
  | .hbm, ⟨29, _⟩ => ⟨S_, .f32⟩
  | .hbm, ⟨30, _⟩ => ⟨S1x16384x512, .f32⟩
  | .hbm, ⟨31, _⟩ => ⟨S1x16384x512, .f32⟩
  | .hbm, ⟨32, _⟩ => ⟨S_, .f32⟩
  | .hbm, ⟨33, _⟩ => ⟨S1x16384x512, .f32⟩
  | .hbm, ⟨34, _⟩ => ⟨S1x16384x512, .f32⟩
  | .hbm, ⟨35, _⟩ => ⟨S1x16384x512, .f32⟩
  | .hbm, ⟨36, _⟩ => ⟨S1x16384x4x128, .f32⟩
  | .hbm, ⟨37, _⟩ => ⟨S1x16384x4x128, .f32⟩
  | .hbm, ⟨38, _⟩ => ⟨S1x16384x512, .f32⟩
  | .hbm, ⟨39, _⟩ => ⟨S1x16384x1x512, .f32⟩
  | .hbm, ⟨40, _⟩ => ⟨S1x16384x1x512, .f32⟩
  | .hbm, ⟨41, _⟩ => ⟨S1x16384x1x512, .f32⟩
  | .hbm, ⟨42, _⟩ => ⟨S1x16384x3x512, .f32⟩
  | .hbm, ⟨43, _⟩ => ⟨S3x1024x1x16384, .f32⟩
  | .hbm, ⟨44, _⟩ => ⟨S1x16384x3x1024, .f32⟩
  | .hbm, ⟨45, _⟩ => ⟨S1x16384x3x1024, .f32⟩
  | .hbm, ⟨46, _⟩ => ⟨S1x16384x3x1024, .f32⟩
  | .hbm, ⟨47, _⟩ => ⟨S1x16384x3x1024, .f32⟩
  | .hbm, ⟨48, _⟩ => ⟨S_, .f32⟩
  | .hbm, ⟨49, _⟩ => ⟨S1x16384x3x1024, .f32⟩
  | .hbm, ⟨50, _⟩ => ⟨S1x16384x3x1024, .f32⟩
  | .hbm, ⟨51, _⟩ => ⟨S_, .f32⟩
  | .hbm, ⟨52, _⟩ => ⟨S1x16384x3x1024, .f32⟩
  | .hbm, ⟨53, _⟩ => ⟨S1x16384x3x1024, .f32⟩
  | .hbm, ⟨54, _⟩ => ⟨S1x16384x3x1024, .f32⟩
  | .hbm, ⟨55, _⟩ => ⟨S_, .f32⟩
  | .hbm, ⟨56, _⟩ => ⟨S1x16384x1024, .f32⟩
  | .hbm, ⟨57, _⟩ => ⟨S1x16384x1024, .f32⟩
  | .hbm, ⟨58, _⟩ => ⟨S1x16384x1024, .f32⟩
  | .hbm, ⟨59, _⟩ => ⟨S16384x1024, .f32⟩
  | _, _ => ⟨S1x16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_cst : Ref sig .tc := ⟨.hbm, 12, rfl⟩
abbrev main_v2 : Ref sig .tc := ⟨.hbm, 13, rfl⟩
abbrev main_v3 : Ref sig .tc := ⟨.hbm, 14, rfl⟩
abbrev main_cst_0 : Ref sig .tc := ⟨.hbm, 15, rfl⟩
abbrev main_v4 : Ref sig .tc := ⟨.hbm, 16, rfl⟩
abbrev main_v5 : Ref sig .tc := ⟨.hbm, 17, rfl⟩
abbrev main_cst_1 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_call0_v0 : Ref sig .tc := ⟨.hbm, 27, rfl⟩
abbrev main_call0_v1 : Ref sig .tc := ⟨.hbm, 28, rfl⟩
abbrev main_call0_cst : Ref sig .tc := ⟨.hbm, 29, rfl⟩
abbrev main_call0_v2 : Ref sig .tc := ⟨.hbm, 30, rfl⟩
abbrev main_call0_v3 : Ref sig .tc := ⟨.hbm, 31, rfl⟩
abbrev main_call0_cst_0 : Ref sig .tc := ⟨.hbm, 32, rfl⟩
abbrev main_call0_v4 : Ref sig .tc := ⟨.hbm, 33, rfl⟩
abbrev main_call0_v5 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_cst_2 : Ref sig .tc := ⟨.hbm, 48, rfl⟩
abbrev main_v27 : Ref sig .tc := ⟨.hbm, 49, rfl⟩
abbrev main_v28 : Ref sig .tc := ⟨.hbm, 50, rfl⟩
abbrev main_cst_3 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_cst_4 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩

abbrev nD : Nat := 1
abbrev τ : Topo := Topo.v7x

variable {F : FTy → Type} [FloatOps F]
-- ==== Proof.FlashTrip.lean ====
module

public import proofs.«01_k».proof.Proof.Gen.KernelIdeal.Loops
public import Idealize.ShloMosaic.Lib.Pipeline.ReadBack

@[expose] public section

set_option maxRecDepth 16384

noncomputable section

namespace Cert.KernelIdeal.Flash

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F]

/-- One block of scores: the keys' block times one head's padded queries. -/
def scoreV (kb : Vec F S512x128 .bf16) (qb : Vec F S1x128x256 .bf16) : FVec F S512x256 .f32 :=
  matmul dot_S512x128_S128x256_S512x256_1_0_0_1_n_n none (shapeCast S512x128 kb shapeCasts_S512x128_S512x128 : FVec F S512x128 .bf16)
    (shapeCast S128x256 qb shapeCasts_S1x128x256_S128x256 : FVec F S128x256 .bf16) (constant S512x256 .f32 0x00000000#32)

/-- The running maximum after a block of scores. -/
def maxV (m : FVec F S1x256 .f32) (s : FVec F S512x256 .f32) : FVec F S1x256 .f32 :=
  maximumf m (shapeCast S1x256 (multiReduction .maximumf [0] S256 s 0xFF800000#32 reduces_S512x256_S256 (.inl rfl) rfl) shapeCasts_S256_S1x256)

/-- The rescaling factor a block of scores brings. -/
def alV (m : FVec F S1x256 .f32) (s : FVec F S512x256 .f32) : FVec F S1x256 .f32 :=
  exp2 (subf m (maxV m s))

/-- A block's unnormalised weights. -/
def pV (m : FVec F S1x256 .f32) (s : FVec F S512x256 .f32) : FVec F S512x256 .bf16 :=
  truncf .bf16 (exp2 (subf s (broadcastTo S512x256 (maxV m s) broadcasts_S1x256_S512x256))) bitsLt_bf16_f32

/-- The accumulator after a block's weights meet its values. -/
def accV (a : FVec F S1x256 .f32) (x : FVec F S80x256 .f32) (vb : Vec F S1x80x512 .bf16) (p : FVec F S512x256 .bf16) : FVec F S80x256 .f32 :=
  addf (mulf (broadcastTo S80x256 a broadcasts_S1x256_S80x256) x)
    (matmul dot_S80x512_S512x256_S80x256_1_0_0_1_n_n none (shapeCast S80x512 vb shapeCasts_S1x80x512_S80x512 : FVec F S80x512 .bf16) p (constant S80x256 .f32 0x00000000#32))

/-- The loop's carried value from its per-head parts: the maxima, the factors, the accumulators. -/
abbrev tup (m a : Fin 8 → FVec F S1x256 .f32) (x : Fin 8 → FVec F S80x256 .f32) : FVec F S1x256 .f32 × FVec F S1x256 .f32 × FVec F S1x256 .f32 × FVec F S1x256 .f32 × FVec F S1x256 .f32 × FVec F S1x256 .f32 × FVec F S1x256 .f32 × FVec F S1x256 .f32 × FVec F S1x256 .f32 × FVec F S1x256 .f32 × FVec F S1x256 .f32 × FVec F S1x256 .f32 × FVec F S1x256 .f32 × FVec F S1x256 .f32 × FVec F S1x256 .f32 × FVec F S1x256 .f32 × FVec F S80x256 .f32 × FVec F S80x256 .f32 × FVec F S80x256 .f32 × FVec F S80x256 .f32 × FVec F S80x256 .f32 × FVec F S80x256 .f32 × FVec F S80x256 .f32 × FVec F S80x256 .f32 :=
  (m 0, m 1, m 2, m 3, m 4, m 5, m 6, m 7, a 0, a 1, a 2, a 3, a 4, a 5, a 6, a 7, x 0, x 1, x 2, x 3, x 4, x 5, x 6, x 7)

/-- The rectangle of slot `o` and head `h` lies in the scratch. -/
theorem slot_inb (o : Fin 2) (h : Fin 8) : ∀ a, (![o.val, h.val, 0, 0] : Fin 4 → ℕ) a + S1x1x512x256.size a ≤ S2x8x512x256.size a := by
  revert o h; decide

/-- The rectangle of head `h` lies in the queries' block. -/
theorem head_inb (h : Fin 8) : ∀ a, (![h.val, 0, 0] : Fin 3 → ℕ) a + S1x128x256.size a ≤ S8x128x256.size a := by
  revert h; decide

/-- Slot `o`, head `h` of the score scratch, as a matrix. -/
def sAt (arg6 : Memref sig .tc .vmem S2x8x512x256 .f32) (f : BufTy.Contents (Elt F) arg6.view.ty) (o : Fin 2) (h : Fin 8) : FVec F S512x256 .f32 :=
  shapeCast S512x256 (arg6.view.readAt (Elt F) (Rect.unit (s := S2x8x512x256) ![o.val, h.val, 0, 0] S1x1x512x256.size (slot_inb o h)).toLoadRect f) shapeCasts_S1x1x512x256_S512x256

/-- Slot `o`, head `h` of the weight scratch, as a matrix. -/
def pAt (arg7 : Memref sig .tc .vmem S2x8x512x256 .bf16) (f : BufTy.Contents (Elt F) arg7.view.ty) (o : Fin 2) (h : Fin 8) : FVec F S512x256 .bf16 :=
  shapeCast S512x256 (arg7.view.readAt (Elt F) (Rect.unit (s := S2x8x512x256) ![o.val, h.val, 0, 0] S1x1x512x256.size (slot_inb o h)).toLoadRect f) shapeCasts_S1x1x512x256_S512x256

/-- Head `h`'s padded queries. -/
def qAt (arg2 : Memref sig .tc .vmem S8x128x256 .bf16) (X : BufTy.Contents (Elt F) arg2.view.ty) (h : Fin 8) : Vec F S1x128x256 .bf16 :=
  arg2.view.readAt (Elt F) (Rect.unit (s := S8x128x256) ![h.val, 0, 0] S1x128x256.size (head_inb h)).toLoadRect X

/-- One head's state between two half steps: the running maximum, the last rescaling factor, the accumulator, the scores
    waiting to be weighed and the weights waiting to meet their values. -/
structure HS (F : FTy → Type) where
  m : FVec F S1x256 .f32
  a : FVec F S1x256 .f32
  x : FVec F S80x256 .f32
  s : FVec F S512x256 .f32
  p : FVec F S512x256 .bf16

/-- A half step of one head: the waiting weights meet their values `vb`, the waiting scores are weighed, and the next scores
    are taken against the keys `kb`. -/
def half (qb : Vec F S1x128x256 .bf16) (kb : Vec F S512x128 .bf16) (vb : Vec F S1x80x512 .bf16) (H : HS F) : HS F where
  m := maxV H.m H.s
  a := alV H.m H.s
  x := accV H.a H.x vb H.p
  s := scoreV kb qb
  p := pV H.m H.s

/-- A load that misses the newest piece reads what was there before it. -/
theorem readAt_skip {sig : RefSig} {κ : Kind} {sp : Space} {s : Shape} {e : EltTy} {Val : EltTy → Type} (v : View sig κ sp s e)
    (f : v.ty.Contents Val) (r : Rect s) (w : r.shape.Idx → Val e) (L : List (View.Piece Val s e)) (B : LoadRect s)
    (h : LoadRect.disj r B = true) : v.readAt Val B (v.writes Val f (⟨r, w⟩ :: L)) = v.readAt Val B (v.writes Val f L) := by
  funext j
  exact View.read_writes_cons_miss v (f := f) ⟨r, w⟩ L _ (LoadRect.idx_not_mem_of_disj h j)

/-- A load of the newest piece's rectangle reads its payload. -/
theorem readAt_hit {sig : RefSig} {κ : Kind} {sp : Space} {s : Shape} {e : EltTy} {Val : EltTy → Type} (v : View sig κ sp s e)
    (f : v.ty.Contents Val) (r : Rect s) (w : r.shape.Idx → Val e) (L : List (View.Piece Val s e)) :
    v.readAt Val r.toLoadRect (v.writes Val f (⟨r, w⟩ :: L)) = w := by
  funext j
  exact View.read_writes_cons_emb v (f := f) r w L j

section Trip
variable (𝒱 : Variants) (c : Dev nD) (bd : Option 𝒱.V) (i : grid0.Coords) (arg2 : Memref sig .tc .vmem S8x128x256 .bf16) (harg2 : arg2.IsWhole) (arg3 : Memref sig .tc .vmem S16384x128 .bf16) (harg3 : arg3.IsWhole) (arg4 : Memref sig .tc .vmem S2x80x16384 .bf16) (harg4 : arg4.IsWhole) (arg5 : Memref sig .tc .vmem S512x256 .bf16) (harg5 : arg5.IsWhole) (arg6 : Memref sig .tc .vmem S2x8x512x256 .f32) (harg6 : arg6.IsWhole) (arg7 : Memref sig .tc .vmem S2x8x512x256 .bf16) (harg7 : arg7.IsWhole) (v48 : FVec F S512x256 .f32) (X_arg2 : BufTy.Contents (Elt F) arg2.view.ty) (X_arg3 : BufTy.Contents (Elt F) arg3.view.ty) (X_arg4 : BufTy.Contents (Elt F) arg4.view.ty) (k : Fin k0_t1_loop.trips)
  (H : Fin 8 → HS F)
  (f_arg6 : BufTy.Contents (Elt F) arg6.view.ty) (f_arg7 : BufTy.Contents (Elt F) arg7.view.ty)

/-- The keys' block the first half step multiplies. -/
abbrev kA : Vec F S512x128 .bf16 := (arg3.view.readAt (Elt F) (Rect.unit (s := S16384x128) (k0_off1 k) S512x128.size (k0_off1_inb k)).toLoadRect X_arg3)
/-- The keys' block the second half step multiplies. -/
abbrev kB : Vec F S512x128 .bf16 := (arg3.view.readAt (Elt F) (Rect.unit (s := S16384x128) (k0_off4 k) S512x128.size (k0_off4_inb k)).toLoadRect X_arg3)
/-- The values' block the first half step multiplies, by head. -/
abbrev vA (h : Fin 8) : Vec F S1x80x512 .bf16 := if h.val < 4 then (arg4.view.readAt (Elt F) (Rect.unit (s := S2x80x16384) (k0_off2 k) S1x80x512.size (k0_off2_inb k)).toLoadRect X_arg4) else (arg4.view.readAt (Elt F) (Rect.unit (s := S2x80x16384) (k0_off3 k) S1x80x512.size (k0_off3_inb k)).toLoadRect X_arg4)
/-- The values' block the second half step multiplies, by head. -/
abbrev vB (h : Fin 8) : Vec F S1x80x512 .bf16 := if h.val < 4 then (arg4.view.readAt (Elt F) (Rect.unit (s := S2x80x16384) (k0_off5 k) S1x80x512.size (k0_off5_inb k)).toLoadRect X_arg4) else (arg4.view.readAt (Elt F) (Rect.unit (s := S2x80x16384) (k0_off6 k) S1x80x512.size (k0_off6_inb k)).toLoadRect X_arg4)

/-- One trip of the loop on one head's state: two half steps. -/
abbrev two (h : Fin 8) : HS F :=
  half (qAt arg2 X_arg2 h) (kB arg3 X_arg3 k) (vB arg4 X_arg4 k h) (half (qAt arg2 X_arg2 h) (kA arg3 X_arg3 k) (vA arg4 X_arg4 k h) (H h))

/-- The carried value a trip yields. -/
theorem trip_yield (hs : ∀ h, sAt arg6 f_arg6 0 h = (H h).s) (hp : ∀ h, pAt arg7 f_arg7 1 h = (H h).p) :
    tripR_k0_t1 (F := F) 𝒱 c bd i arg2 harg2 arg3 harg3 arg4 harg4 arg5 harg5 arg6 harg6 arg7 harg7 v48 X_arg2 X_arg3 X_arg4 k (tup (fun h => (H h).m) (fun h => (H h).a) (fun h => (H h).x)) f_arg6 f_arg7
      = tup (fun h => (two arg2 arg3 arg4 X_arg2 X_arg3 X_arg4 k H h).m) (fun h => (two arg2 arg3 arg4 X_arg2 X_arg3 X_arg4 k H h).a) (fun h => (two arg2 arg3 arg4 X_arg2 X_arg3 X_arg4 k H h).x) := by
  unfold tripR_k0_t1 trip_k0_t1
  dsimp only
  simp (decide := true) only [trip_k0_t1.sl.HW_arg6_10, trip_k0_t1.sl.HW_arg6_11, trip_k0_t1.sl.HW_arg6_12, trip_k0_t1.sl.HW_arg6_13, trip_k0_t1.sl.HW_arg6_14, trip_k0_t1.sl.HW_arg6_15, trip_k0_t1.sl.HW_arg6_8, trip_k0_t1.sl.HW_arg6_9, trip_k0_t1.sl.HW_arg7_10, trip_k0_t1.sl.HW_arg7_11, trip_k0_t1.sl.HW_arg7_12, trip_k0_t1.sl.HW_arg7_13, trip_k0_t1.sl.HW_arg7_14, trip_k0_t1.sl.HW_arg7_15, trip_k0_t1.sl.HW_arg7_8, trip_k0_t1.sl.HW_arg7_9, trip_k0_t1.sl.arg8, trip_k0_t1.sl.cst_167, trip_k0_t1.sl.r, trip_k0_t1.sl.r_1, trip_k0_t1.sl.r_10, trip_k0_t1.sl.r_11, trip_k0_t1.sl.r_12, trip_k0_t1.sl.r_13, trip_k0_t1.sl.r_14, trip_k0_t1.sl.r_15, trip_k0_t1.sl.r_16, trip_k0_t1.sl.r_17, trip_k0_t1.sl.r_18, trip_k0_t1.sl.r_19, trip_k0_t1.sl.r_2, trip_k0_t1.sl.r_20, trip_k0_t1.sl.r_21, trip_k0_t1.sl.r_22, trip_k0_t1.sl.r_23, trip_k0_t1.sl.r_24, trip_k0_t1.sl.r_25, trip_k0_t1.sl.r_26, trip_k0_t1.sl.r_27, trip_k0_t1.sl.r_28, trip_k0_t1.sl.r_29, trip_k0_t1.sl.r_3, trip_k0_t1.sl.r_30, trip_k0_t1.sl.r_31, trip_k0_t1.sl.r_32, trip_k0_t1.sl.r_33, trip_k0_t1.sl.r_34, trip_k0_t1.sl.r_35, trip_k0_t1.sl.r_36, trip_k0_t1.sl.r_37, trip_k0_t1.sl.r_38, trip_k0_t1.sl.r_39, trip_k0_t1.sl.r_4, trip_k0_t1.sl.r_40, trip_k0_t1.sl.r_41, trip_k0_t1.sl.r_42, trip_k0_t1.sl.r_43, trip_k0_t1.sl.r_44, trip_k0_t1.sl.r_45, trip_k0_t1.sl.r_46, trip_k0_t1.sl.r_47, trip_k0_t1.sl.r_48, trip_k0_t1.sl.r_49, trip_k0_t1.sl.r_5, trip_k0_t1.sl.r_50, trip_k0_t1.sl.r_51, trip_k0_t1.sl.r_52, trip_k0_t1.sl.r_53, trip_k0_t1.sl.r_54, trip_k0_t1.sl.r_55, trip_k0_t1.sl.r_56, trip_k0_t1.sl.r_57, trip_k0_t1.sl.r_58, trip_k0_t1.sl.r_59, trip_k0_t1.sl.r_6, trip_k0_t1.sl.r_60, trip_k0_t1.sl.r_61, trip_k0_t1.sl.r_62, trip_k0_t1.sl.r_63, trip_k0_t1.sl.r_64, trip_k0_t1.sl.r_7, trip_k0_t1.sl.r_8, trip_k0_t1.sl.r_9, trip_k0_t1.sl.v164, trip_k0_t1.sl.v209, trip_k0_t1.sl.v213, trip_k0_t1.sl.v235, trip_k0_t1.sl.v239, trip_k0_t1.sl.v261, trip_k0_t1.sl.v265, trip_k0_t1.sl.v287, trip_k0_t1.sl.v291, trip_k0_t1.sl.v313, trip_k0_t1.sl.v317, trip_k0_t1.sl.v339, trip_k0_t1.sl.v343, trip_k0_t1.sl.v365, trip_k0_t1.sl.v369, trip_k0_t1.sl.v406, trip_k0_t1.sl.v410, trip_k0_t1.sl.v432, trip_k0_t1.sl.v436, trip_k0_t1.sl.v458, trip_k0_t1.sl.v462, trip_k0_t1.sl.v484, trip_k0_t1.sl.v488, trip_k0_t1.sl.v510, trip_k0_t1.sl.v514, trip_k0_t1.sl.v536, trip_k0_t1.sl.v540, trip_k0_t1.sl.v562, trip_k0_t1.sl.v566, trip_k0_t1.sl.v588, trip_k0_t1.sl.v592, ↓View.readCov_skip, View.readCov_cons_toLoadRect]
  simp only [two, half, ← hs, ← hp, k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, shapeCast_shapeCast]
  rfl

/-- The scores a trip leaves waiting. -/
theorem trip_scores (h : Fin 8) :
    sAt arg6 (arg6.view.writes (Elt F) f_arg6 (tripL_k0_t1 (F := F) 𝒱 c bd i arg2 harg2 arg3 harg3 arg4 harg4 arg5 harg5 arg6 harg6 arg7 harg7 v48 X_arg2 X_arg3 X_arg4 k (tup (fun h => (H h).m) (fun h => (H h).a) (fun h => (H h).x)) f_arg6 f_arg7).1) 0 h
      = (two arg2 arg3 arg4 X_arg2 X_arg3 X_arg4 k H h).s := by
  unfold tripL_k0_t1 trip_k0_t1
  dsimp only
  simp only [two, half, sAt]
  fin_cases h <;>
  · simp only [Fin.val_zero, Fin.val_one]
    simp (decide := true) only [trip_k0_t1.sl.HW_arg6_10, trip_k0_t1.sl.HW_arg6_11, trip_k0_t1.sl.HW_arg6_12, trip_k0_t1.sl.HW_arg6_13, trip_k0_t1.sl.HW_arg6_14, trip_k0_t1.sl.HW_arg6_15, trip_k0_t1.sl.HW_arg6_8, trip_k0_t1.sl.HW_arg6_9, trip_k0_t1.sl.HW_arg7_10, trip_k0_t1.sl.HW_arg7_11, trip_k0_t1.sl.HW_arg7_12, trip_k0_t1.sl.HW_arg7_13, trip_k0_t1.sl.HW_arg7_14, trip_k0_t1.sl.HW_arg7_15, trip_k0_t1.sl.HW_arg7_8, trip_k0_t1.sl.HW_arg7_9, trip_k0_t1.sl.arg8, trip_k0_t1.sl.cst_167, trip_k0_t1.sl.r, trip_k0_t1.sl.r_1, trip_k0_t1.sl.r_10, trip_k0_t1.sl.r_11, trip_k0_t1.sl.r_12, trip_k0_t1.sl.r_13, trip_k0_t1.sl.r_14, trip_k0_t1.sl.r_15, trip_k0_t1.sl.r_16, trip_k0_t1.sl.r_17, trip_k0_t1.sl.r_18, trip_k0_t1.sl.r_19, trip_k0_t1.sl.r_2, trip_k0_t1.sl.r_20, trip_k0_t1.sl.r_21, trip_k0_t1.sl.r_22, trip_k0_t1.sl.r_23, trip_k0_t1.sl.r_24, trip_k0_t1.sl.r_25, trip_k0_t1.sl.r_26, trip_k0_t1.sl.r_27, trip_k0_t1.sl.r_28, trip_k0_t1.sl.r_29, trip_k0_t1.sl.r_3, trip_k0_t1.sl.r_30, trip_k0_t1.sl.r_31, trip_k0_t1.sl.r_32, trip_k0_t1.sl.r_33, trip_k0_t1.sl.r_34, trip_k0_t1.sl.r_35, trip_k0_t1.sl.r_36, trip_k0_t1.sl.r_37, trip_k0_t1.sl.r_38, trip_k0_t1.sl.r_39, trip_k0_t1.sl.r_4, trip_k0_t1.sl.r_40, trip_k0_t1.sl.r_41, trip_k0_t1.sl.r_42, trip_k0_t1.sl.r_43, trip_k0_t1.sl.r_44, trip_k0_t1.sl.r_45, trip_k0_t1.sl.r_46, trip_k0_t1.sl.r_47, trip_k0_t1.sl.r_48, trip_k0_t1.sl.r_49, trip_k0_t1.sl.r_5, trip_k0_t1.sl.r_50, trip_k0_t1.sl.r_51, trip_k0_t1.sl.r_52, trip_k0_t1.sl.r_53, trip_k0_t1.sl.r_54, trip_k0_t1.sl.r_55, trip_k0_t1.sl.r_56, trip_k0_t1.sl.r_57, trip_k0_t1.sl.r_58, trip_k0_t1.sl.r_59, trip_k0_t1.sl.r_6, trip_k0_t1.sl.r_60, trip_k0_t1.sl.r_61, trip_k0_t1.sl.r_62, trip_k0_t1.sl.r_63, trip_k0_t1.sl.r_64, trip_k0_t1.sl.r_7, trip_k0_t1.sl.r_8, trip_k0_t1.sl.r_9, trip_k0_t1.sl.v164, trip_k0_t1.sl.v209, trip_k0_t1.sl.v213, trip_k0_t1.sl.v235, trip_k0_t1.sl.v239, trip_k0_t1.sl.v261, trip_k0_t1.sl.v265, trip_k0_t1.sl.v287, trip_k0_t1.sl.v291, trip_k0_t1.sl.v313, trip_k0_t1.sl.v317, trip_k0_t1.sl.v339, trip_k0_t1.sl.v343, trip_k0_t1.sl.v365, trip_k0_t1.sl.v369, trip_k0_t1.sl.v406, trip_k0_t1.sl.v410, trip_k0_t1.sl.v432, trip_k0_t1.sl.v436, trip_k0_t1.sl.v458, trip_k0_t1.sl.v462, trip_k0_t1.sl.v484, trip_k0_t1.sl.v488, trip_k0_t1.sl.v510, trip_k0_t1.sl.v514, trip_k0_t1.sl.v536, trip_k0_t1.sl.v540, trip_k0_t1.sl.v562, trip_k0_t1.sl.v566, trip_k0_t1.sl.v588, trip_k0_t1.sl.v592, ↓readAt_skip, readAt_hit]
    simp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, shapeCast_shapeCast]
    exact shapeCast_shapeCast _ _ _

/-- The weights a trip leaves waiting. -/
theorem trip_weights (hs : ∀ h, sAt arg6 f_arg6 0 h = (H h).s) (h : Fin 8) :
    pAt arg7 (arg7.view.writes (Elt F) f_arg7 (tripL_k0_t1 (F := F) 𝒱 c bd i arg2 harg2 arg3 harg3 arg4 harg4 arg5 harg5 arg6 harg6 arg7 harg7 v48 X_arg2 X_arg3 X_arg4 k (tup (fun h => (H h).m) (fun h => (H h).a) (fun h => (H h).x)) f_arg6 f_arg7).2) 1 h
      = (two arg2 arg3 arg4 X_arg2 X_arg3 X_arg4 k H h).p := by
  unfold tripL_k0_t1 trip_k0_t1
  dsimp only
  simp only [two, half, pAt, ← hs]
  fin_cases h <;>
  · simp only [Fin.val_zero, Fin.val_one]
    simp (decide := true) only [trip_k0_t1.sl.HW_arg6_10, trip_k0_t1.sl.HW_arg6_11, trip_k0_t1.sl.HW_arg6_12, trip_k0_t1.sl.HW_arg6_13, trip_k0_t1.sl.HW_arg6_14, trip_k0_t1.sl.HW_arg6_15, trip_k0_t1.sl.HW_arg6_8, trip_k0_t1.sl.HW_arg6_9, trip_k0_t1.sl.HW_arg7_10, trip_k0_t1.sl.HW_arg7_11, trip_k0_t1.sl.HW_arg7_12, trip_k0_t1.sl.HW_arg7_13, trip_k0_t1.sl.HW_arg7_14, trip_k0_t1.sl.HW_arg7_15, trip_k0_t1.sl.HW_arg7_8, trip_k0_t1.sl.HW_arg7_9, trip_k0_t1.sl.arg8, trip_k0_t1.sl.cst_167, trip_k0_t1.sl.r, trip_k0_t1.sl.r_1, trip_k0_t1.sl.r_10, trip_k0_t1.sl.r_11, trip_k0_t1.sl.r_12, trip_k0_t1.sl.r_13, trip_k0_t1.sl.r_14, trip_k0_t1.sl.r_15, trip_k0_t1.sl.r_16, trip_k0_t1.sl.r_17, trip_k0_t1.sl.r_18, trip_k0_t1.sl.r_19, trip_k0_t1.sl.r_2, trip_k0_t1.sl.r_20, trip_k0_t1.sl.r_21, trip_k0_t1.sl.r_22, trip_k0_t1.sl.r_23, trip_k0_t1.sl.r_24, trip_k0_t1.sl.r_25, trip_k0_t1.sl.r_26, trip_k0_t1.sl.r_27, trip_k0_t1.sl.r_28, trip_k0_t1.sl.r_29, trip_k0_t1.sl.r_3, trip_k0_t1.sl.r_30, trip_k0_t1.sl.r_31, trip_k0_t1.sl.r_32, trip_k0_t1.sl.r_33, trip_k0_t1.sl.r_34, trip_k0_t1.sl.r_35, trip_k0_t1.sl.r_36, trip_k0_t1.sl.r_37, trip_k0_t1.sl.r_38, trip_k0_t1.sl.r_39, trip_k0_t1.sl.r_4, trip_k0_t1.sl.r_40, trip_k0_t1.sl.r_41, trip_k0_t1.sl.r_42, trip_k0_t1.sl.r_43, trip_k0_t1.sl.r_44, trip_k0_t1.sl.r_45, trip_k0_t1.sl.r_46, trip_k0_t1.sl.r_47, trip_k0_t1.sl.r_48, trip_k0_t1.sl.r_49, trip_k0_t1.sl.r_5, trip_k0_t1.sl.r_50, trip_k0_t1.sl.r_51, trip_k0_t1.sl.r_52, trip_k0_t1.sl.r_53, trip_k0_t1.sl.r_54, trip_k0_t1.sl.r_55, trip_k0_t1.sl.r_56, trip_k0_t1.sl.r_57, trip_k0_t1.sl.r_58, trip_k0_t1.sl.r_59, trip_k0_t1.sl.r_6, trip_k0_t1.sl.r_60, trip_k0_t1.sl.r_61, trip_k0_t1.sl.r_62, trip_k0_t1.sl.r_63, trip_k0_t1.sl.r_64, trip_k0_t1.sl.r_7, trip_k0_t1.sl.r_8, trip_k0_t1.sl.r_9, trip_k0_t1.sl.v164, trip_k0_t1.sl.v209, trip_k0_t1.sl.v213, trip_k0_t1.sl.v235, trip_k0_t1.sl.v239, trip_k0_t1.sl.v261, trip_k0_t1.sl.v265, trip_k0_t1.sl.v287, trip_k0_t1.sl.v291, trip_k0_t1.sl.v313, trip_k0_t1.sl.v317, trip_k0_t1.sl.v339, trip_k0_t1.sl.v343, trip_k0_t1.sl.v365, trip_k0_t1.sl.v369, trip_k0_t1.sl.v406, trip_k0_t1.sl.v410, trip_k0_t1.sl.v432, trip_k0_t1.sl.v436, trip_k0_t1.sl.v458, trip_k0_t1.sl.v462, trip_k0_t1.sl.v484, trip_k0_t1.sl.v488, trip_k0_t1.sl.v510, trip_k0_t1.sl.v514, trip_k0_t1.sl.v536, trip_k0_t1.sl.v540, trip_k0_t1.sl.v562, trip_k0_t1.sl.v566, trip_k0_t1.sl.v588, trip_k0_t1.sl.v592, ↓readAt_skip, readAt_hit, ↓View.readCov_skip, View.readCov_cons_toLoadRect]
    simp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, shapeCast_shapeCast]
    exact shapeCast_shapeCast _ _ _
end Trip

end Cert.KernelIdeal.Flash

end
-- ==== Proof.FlashBody.lean ====
module

public import proofs.«01_k».proof.Proof.FlashTrip
public import proofs.«01_k».proof.Proof.Gen.KernelIdeal.Frame

@[expose] public section

set_option maxRecDepth 16384
set_option maxHeartbeats 4000000

noncomputable section

namespace Cert.KernelIdeal.Flash

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F]

local notation "𝕄" => MT nD τ sig Unit (Elt F) ℕ (UR sig nD τ) ℕ

/-- Memref `M`'s buffer on core `c`, held at contents `X`. -/
abbrev own (c : Dev nD) {S : Shape} {e : EltTy} (M : Memref sig .tc .vmem S e) (X : BufTy.Contents (Elt F) M.view.ty) : sProp 𝕄 :=
  iprop(M.view.loc (c : Thread nD τ) ↦[M.view.set]{fullShare} X)

/-- The kernel body, run once: the pieces it leaves in the result's block, from the contents of the three operands' blocks
    and of the two scratch buffers. -/
@[irreducible] def bodyRun (𝒱 : Variants) (c : Dev nD) (bd : Option 𝒱.V) (i : grid0.Coords)
    (arg2 : Memref sig .tc .vmem S8x128x256 .bf16) (harg2 : arg2.IsWhole) (arg3 : Memref sig .tc .vmem S16384x128 .bf16) (harg3 : arg3.IsWhole)
    (arg4 : Memref sig .tc .vmem S2x80x16384 .bf16) (harg4 : arg4.IsWhole) (arg5 : Memref sig .tc .vmem S512x256 .bf16) (harg5 : arg5.IsWhole)
    (arg6 : Memref sig .tc .vmem S2x8x512x256 .f32) (harg6 : arg6.IsWhole) (arg7 : Memref sig .tc .vmem S2x8x512x256 .bf16) (harg7 : arg7.IsWhole)
    (X2 : BufTy.Contents (Elt F) arg2.view.ty) (X3 : BufTy.Contents (Elt F) arg3.view.ty) (X4 : BufTy.Contents (Elt F) arg4.view.ty)
    (f6 : BufTy.Contents (Elt F) arg6.view.ty) (f7 : BufTy.Contents (Elt F) arg7.view.ty) :
    { L : List (View.Piece (Elt F) S512x256 .bf16) // ∀ (E : Set ℕ) (f5 : BufTy.Contents (Elt F) arg5.view.ty),
      iprop(own c arg2 X2 ∗ own c arg3 X3 ∗ own c arg4 X4 ∗ own c arg5 f5 ∗ own c arg6 f6 ∗ own c arg7 f7)
      ⊢ wp frame (wpE (defs₀ (F := F)) 𝒱 (c : Thread nD τ) bd) E
          (cc0_flash (F := F) i arg2 harg2 arg3 harg3 arg4 harg4 arg5 harg5 arg6 harg6 arg7 harg7)
          (fun _ => iprop(own c arg2 X2 ∗ own c arg3 X3 ∗ own c arg4 X4 ∗ own c arg5 (arg5.view.writes (Elt F) f5 L)
            ∗ (∃ f, own c arg6 f) ∗ ∃ f, own c arg7 f)) } := by
  refine ⟨?_, fun E f5 => ?run⟩
  case run =>
    iintro ⟨HR2, HR3, HR4, HW5, HW6, HW7⟩
    sl_exec
    sl_step
    isplitl [HR2]; · iexact HR2
    isplitl [HR3]; · iexact HR3
    isplitl [HR4]; · iexact HR4
    isplitl [HW5]; · iexact HW5
    isplitl [HW6]; · iexists _; iexact HW6
    iexists _; iexact HW7

end Cert.KernelIdeal.Flash

end
-- ==== Proof.FlashLoop.lean ====
module

public import proofs.«01_k».proof.Proof.FlashBody

@[expose] public section

set_option maxRecDepth 16384

noncomputable section

namespace Cert.KernelIdeal.Flash

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F]

/-- The states of all heads before trip `k` of the loop, from the states `H` at its entry. -/
def stH (arg2 : Memref sig .tc .vmem S8x128x256 .bf16) (arg3 : Memref sig .tc .vmem S16384x128 .bf16) (arg4 : Memref sig .tc .vmem S2x80x16384 .bf16)
    (X_arg2 : BufTy.Contents (Elt F) arg2.view.ty) (X_arg3 : BufTy.Contents (Elt F) arg3.view.ty) (X_arg4 : BufTy.Contents (Elt F) arg4.view.ty)
    (H : Fin 8 → HS F) : ℕ → Fin 8 → HS F
  | 0 => H
  | k + 1 => fun h => if hk : k < k0_t1_loop.trips then two arg2 arg3 arg4 X_arg2 X_arg3 X_arg4 ⟨k, hk⟩ (stH arg2 arg3 arg4 X_arg2 X_arg3 X_arg4 H k) h
      else stH arg2 arg3 arg4 X_arg2 X_arg3 X_arg4 H k h

section Loop
variable (𝒱 : Variants) (c : Dev nD) (bd : Option 𝒱.V) (i : grid0.Coords) (arg2 : Memref sig .tc .vmem S8x128x256 .bf16) (harg2 : arg2.IsWhole) (arg3 : Memref sig .tc .vmem S16384x128 .bf16) (harg3 : arg3.IsWhole) (arg4 : Memref sig .tc .vmem S2x80x16384 .bf16) (harg4 : arg4.IsWhole) (arg5 : Memref sig .tc .vmem S512x256 .bf16) (harg5 : arg5.IsWhole) (arg6 : Memref sig .tc .vmem S2x8x512x256 .f32) (harg6 : arg6.IsWhole) (arg7 : Memref sig .tc .vmem S2x8x512x256 .bf16) (harg7 : arg7.IsWhole) (v48 : FVec F S512x256 .f32) (X_arg2 : BufTy.Contents (Elt F) arg2.view.ty) (X_arg3 : BufTy.Contents (Elt F) arg3.view.ty) (X_arg4 : BufTy.Contents (Elt F) arg4.view.ty)
  (H : Fin 8 → HS F)
  (G6 : BufTy.Contents (Elt F) arg6.view.ty) (G7 : BufTy.Contents (Elt F) arg7.view.ty)

/-- The loop's recursion from the states at its entry. -/
abbrev stOf (k : ℕ) := st_k0_t1 (F := F) 𝒱 c bd i arg2 harg2 arg3 harg3 arg4 harg4 arg5 harg5 arg6 harg6 arg7 harg7 v48 X_arg2 X_arg3 X_arg4 G6 G7 (tup (fun h => (H h).m) (fun h => (H h).a) (fun h => (H h).x)) k

/-- The loop's recursion in closed form: what it carries, and what the two scratch buffers hold of each head's waiting scores
    and weights, are the per-head states. -/
theorem st_closed (hs : ∀ h, sAt arg6 G6 0 h = (H h).s) (hp : ∀ h, pAt arg7 G7 1 h = (H h).p) : ∀ k, k ≤ k0_t1_loop.trips →
    (stOf 𝒱 c bd i arg2 harg2 arg3 harg3 arg4 harg4 arg5 harg5 arg6 harg6 arg7 harg7 v48 X_arg2 X_arg3 X_arg4 H G6 G7 k).1 = tup (fun h => (stH arg2 arg3 arg4 X_arg2 X_arg3 X_arg4 H k h).m) (fun h => (stH arg2 arg3 arg4 X_arg2 X_arg3 X_arg4 H k h).a) (fun h => (stH arg2 arg3 arg4 X_arg2 X_arg3 X_arg4 H k h).x)
    ∧ (∀ h, sAt arg6 (arg6.view.writes (Elt F) G6 (stOf 𝒱 c bd i arg2 harg2 arg3 harg3 arg4 harg4 arg5 harg5 arg6 harg6 arg7 harg7 v48 X_arg2 X_arg3 X_arg4 H G6 G7 k).2.1) 0 h = (stH arg2 arg3 arg4 X_arg2 X_arg3 X_arg4 H k h).s)
    ∧ (∀ h, pAt arg7 (arg7.view.writes (Elt F) G7 (stOf 𝒱 c bd i arg2 harg2 arg3 harg3 arg4 harg4 arg5 harg5 arg6 harg6 arg7 harg7 v48 X_arg2 X_arg3 X_arg4 H G6 G7 k).2.2) 1 h = (stH arg2 arg3 arg4 X_arg2 X_arg3 X_arg4 H k h).p)
  | 0, _ => ⟨rfl, hs, hp⟩
  | k + 1, hk => by
    obtain ⟨ih1, ih2, ih3⟩ := st_closed hs hp k (Nat.le_of_succ_le hk)
    have hk' : k < k0_t1_loop.trips := hk
    have e := st_k0_t1_succ (F := F) 𝒱 c bd i arg2 harg2 arg3 harg3 arg4 harg4 arg5 harg5 arg6 harg6 arg7 harg7 v48 X_arg2 X_arg3 X_arg4 G6 G7 (tup (fun h => (H h).m) (fun h => (H h).a) (fun h => (H h).x)) ⟨k, hk'⟩
    have es : stH arg2 arg3 arg4 X_arg2 X_arg3 X_arg4 H (k + 1) = two arg2 arg3 arg4 X_arg2 X_arg3 X_arg4 ⟨k, hk'⟩ (stH arg2 arg3 arg4 X_arg2 X_arg3 X_arg4 H k) := by
      funext h; rw [stH]; exact dif_pos hk'
    rw [es]
    refine ⟨?_, fun h => ?_, fun h => ?_⟩
    · refine (congrArg (fun z => z.1) e).trans ?_
      dsimp only
      rw [ih1]
      exact trip_yield 𝒱 c bd i arg2 harg2 arg3 harg3 arg4 harg4 arg5 harg5 arg6 harg6 arg7 harg7 v48 X_arg2 X_arg3 X_arg4 ⟨k, hk'⟩ _ _ _ ih2 ih3
    · refine (congrArg (fun z => sAt arg6 (arg6.view.writes (Elt F) G6 z.2.1) 0 h) e).trans ?_
      dsimp only
      rw [View.writes_append, ih1]
      exact trip_scores 𝒱 c bd i arg2 harg2 arg3 harg3 arg4 harg4 arg5 harg5 arg6 harg6 arg7 harg7 v48 X_arg2 X_arg3 X_arg4 ⟨k, hk'⟩ _ _ _ h
    · refine (congrArg (fun z => pAt arg7 (arg7.view.writes (Elt F) G7 z.2.2) 1 h) e).trans ?_
      dsimp only
      rw [View.writes_append, ih1]
      exact trip_weights 𝒱 c bd i arg2 harg2 arg3 harg3 arg4 harg4 arg5 harg5 arg6 harg6 arg7 harg7 v48 X_arg2 X_arg3 X_arg4 ⟨k, hk'⟩ _ _ _ ih2 h

end Loop

end Cert.KernelIdeal.Flash

end
-- ==== Proof.FlashOut.lean ====
module

public import proofs.«01_k».proof.Proof.FlashLoop

@[expose] public section

set_option maxRecDepth 16384

noncomputable section

namespace Cert.KernelIdeal.Flash

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F]

/-- One head's output block: the accumulator's 64 value rows over its row of sums. -/
def divV (x : FVec F S80x256 .f32) : FVec F S64x256 .bf16 :=
  truncf .bf16 (divf (extractStridedSlice S64x256 ![0, 0] x slices_S80x256_o0_0_S64x256)
    (broadcastTo S64x256 (extractStridedSlice S1x256 ![64, 0] x slices_S80x256_o64_0_S1x256) broadcasts_S1x256_S64x256)) bitsLt_bf16_f32

section Body
variable (𝒱 : Variants) (c : Dev nD) (bd : Option 𝒱.V) (i : grid0.Coords) (arg2 : Memref sig .tc .vmem S8x128x256 .bf16) (harg2 : arg2.IsWhole) (arg3 : Memref sig .tc .vmem S16384x128 .bf16) (harg3 : arg3.IsWhole) (arg4 : Memref sig .tc .vmem S2x80x16384 .bf16) (harg4 : arg4.IsWhole) (arg5 : Memref sig .tc .vmem S512x256 .bf16) (harg5 : arg5.IsWhole) (arg6 : Memref sig .tc .vmem S2x8x512x256 .f32) (harg6 : arg6.IsWhole) (arg7 : Memref sig .tc .vmem S2x8x512x256 .bf16) (harg7 : arg7.IsWhole) (X_arg2 : BufTy.Contents (Elt F) arg2.view.ty) (X_arg3 : BufTy.Contents (Elt F) arg3.view.ty) (X_arg4 : BufTy.Contents (Elt F) arg4.view.ty)
  (f6 : BufTy.Contents (Elt F) arg6.view.ty) (f7 : BufTy.Contents (Elt F) arg7.view.ty)

/-- The keys' first block. -/
abbrev kF : Vec F S512x128 .bf16 := (arg3.view.readAt (Elt F) (Rect.unit (s := S16384x128) ![0, 0] S512x128.size inb_S16384x128_S512x128_0_0).toLoadRect X_arg3)

/-- The values' last block, by head. -/
abbrev vL (h : Fin 8) : Vec F S1x80x512 .bf16 :=
  if h.val < 4 then arg4.view.readAt (Elt F) (Rect.unit (s := S2x80x16384) ![0, 0, 15872] S1x80x512.size inb_S2x80x16384_S1x80x512_0_0_15872).toLoadRect X_arg4
  else arg4.view.readAt (Elt F) (Rect.unit (s := S2x80x16384) ![1, 0, 15872] S1x80x512.size inb_S2x80x16384_S1x80x512_1_0_15872).toLoadRect X_arg4

/-- One head's state at the loop's entry: no maximum, the first block's scores waiting, no weights. -/
def initH (h : Fin 8) : HS F where
  m := broadcast S1x256 (Scalar.ofBits .f32 0xFF800000#32)
  a := broadcast S1x256 (Scalar.ofBits .f32 0x3F800000#32)
  x := broadcast S80x256 (Scalar.ofBits .f32 0x00000000#32)
  s := scoreV (kF arg3 X_arg3) (qAt arg2 X_arg2 h)
  p := broadcast S512x256 (Scalar.ofBits .bf16 0x0000#16)

/-- One head's state after the loop. -/
abbrev endH (h : Fin 8) : HS F := stH arg2 arg3 arg4 X_arg2 X_arg3 X_arg4 (initH arg2 arg3 X_arg2 X_arg3) k0_t1_loop.trips h

/-- One head's accumulator at the end: the last block's weights meet their values. -/
abbrev accF (h : Fin 8) : FVec F S80x256 .f32 :=
  accV (endH arg2 arg3 arg4 X_arg2 X_arg3 X_arg4 h).a (endH arg2 arg3 arg4 X_arg2 X_arg3 X_arg4 h).x (vL arg4 X_arg4 h) (endH arg2 arg3 arg4 X_arg2 X_arg3 X_arg4 h).p

/-- The pieces the body leaves in the result's block: head `h`'s output at rows `64 h` to `64 h + 63`. -/
def outL : List (View.Piece (Elt F) S512x256 .bf16) :=
  [⟨Rect.unit (s := S512x256) ![448, 0] S64x256.size inb_S512x256_S64x256_448_0, divV (accF arg2 arg3 arg4 X_arg2 X_arg3 X_arg4 7)⟩,
   ⟨Rect.unit (s := S512x256) ![384, 0] S64x256.size inb_S512x256_S64x256_384_0, divV (accF arg2 arg3 arg4 X_arg2 X_arg3 X_arg4 6)⟩,
   ⟨Rect.unit (s := S512x256) ![320, 0] S64x256.size inb_S512x256_S64x256_320_0, divV (accF arg2 arg3 arg4 X_arg2 X_arg3 X_arg4 5)⟩,
   ⟨Rect.unit (s := S512x256) ![256, 0] S64x256.size inb_S512x256_S64x256_256_0, divV (accF arg2 arg3 arg4 X_arg2 X_arg3 X_arg4 4)⟩,
   ⟨Rect.unit (s := S512x256) ![192, 0] S64x256.size inb_S512x256_S64x256_192_0, divV (accF arg2 arg3 arg4 X_arg2 X_arg3 X_arg4 3)⟩,
   ⟨Rect.unit (s := S512x256) ![128, 0] S64x256.size inb_S512x256_S64x256_128_0, divV (accF arg2 arg3 arg4 X_arg2 X_arg3 X_arg4 2)⟩,
   ⟨Rect.unit (s := S512x256) ![64, 0] S64x256.size inb_S512x256_S64x256_64_0, divV (accF arg2 arg3 arg4 X_arg2 X_arg3 X_arg4 1)⟩,
   ⟨Rect.unit (s := S512x256) ![0, 0] S64x256.size inb_S512x256_S64x256_0_0, divV (accF arg2 arg3 arg4 X_arg2 X_arg3 X_arg4 0)⟩]

/-- The score scratch at the loop's entry. -/
abbrev G6 : BufTy.Contents (Elt F) arg6.view.ty := arg6.view.writes (Elt F) f6
   [⟨Rect.unit (s := S2x8x512x256) ![0, 7, 0, 0] S1x1x512x256.size inb_S2x8x512x256_S1x1x512x256_0_7_0_0, k0_pay123 (k0_pay122 (k0_pay113 (arg3.view.readAt (Elt F) (Rect.unit (s := S16384x128) ![0, 0] S512x128.size inb_S16384x128_S512x128_0_0).toLoadRect X_arg3)) (arg2.view.readAt (Elt F) (Rect.unit (s := S8x128x256) ![7, 0, 0] S1x128x256.size inb_S8x128x256_S1x128x256_7_0_0).toLoadRect X_arg2))⟩,
    ⟨Rect.unit (s := S2x8x512x256) ![0, 6, 0, 0] S1x1x512x256.size inb_S2x8x512x256_S1x1x512x256_0_6_0_0, k0_pay121 (k0_pay113 (arg3.view.readAt (Elt F) (Rect.unit (s := S16384x128) ![0, 0] S512x128.size inb_S16384x128_S512x128_0_0).toLoadRect X_arg3)) (arg2.view.readAt (Elt F) (Rect.unit (s := S8x128x256) ![6, 0, 0] S1x128x256.size inb_S8x128x256_S1x128x256_6_0_0).toLoadRect X_arg2)⟩,
    ⟨Rect.unit (s := S2x8x512x256) ![0, 5, 0, 0] S1x1x512x256.size inb_S2x8x512x256_S1x1x512x256_0_5_0_0, k0_pay120 (k0_pay113 (arg3.view.readAt (Elt F) (Rect.unit (s := S16384x128) ![0, 0] S512x128.size inb_S16384x128_S512x128_0_0).toLoadRect X_arg3)) (arg2.view.readAt (Elt F) (Rect.unit (s := S8x128x256) ![5, 0, 0] S1x128x256.size inb_S8x128x256_S1x128x256_5_0_0).toLoadRect X_arg2)⟩,
    ⟨Rect.unit (s := S2x8x512x256) ![0, 4, 0, 0] S1x1x512x256.size inb_S2x8x512x256_S1x1x512x256_0_4_0_0, k0_pay119 (k0_pay113 (arg3.view.readAt (Elt F) (Rect.unit (s := S16384x128) ![0, 0] S512x128.size inb_S16384x128_S512x128_0_0).toLoadRect X_arg3)) (arg2.view.readAt (Elt F) (Rect.unit (s := S8x128x256) ![4, 0, 0] S1x128x256.size inb_S8x128x256_S1x128x256_4_0_0).toLoadRect X_arg2)⟩,
    ⟨Rect.unit (s := S2x8x512x256) ![0, 3, 0, 0] S1x1x512x256.size inb_S2x8x512x256_S1x1x512x256_0_3_0_0, k0_pay118 (k0_pay117 (arg3.view.readAt (Elt F) (Rect.unit (s := S16384x128) ![0, 0] S512x128.size inb_S16384x128_S512x128_0_0).toLoadRect X_arg3) (arg2.view.readAt (Elt F) (Rect.unit (s := S8x128x256) ![3, 0, 0] S1x128x256.size inb_S8x128x256_S1x128x256_3_0_0).toLoadRect X_arg2))⟩,
    ⟨Rect.unit (s := S2x8x512x256) ![0, 2, 0, 0] S1x1x512x256.size inb_S2x8x512x256_S1x1x512x256_0_2_0_0, k0_pay116 (arg3.view.readAt (Elt F) (Rect.unit (s := S16384x128) ![0, 0] S512x128.size inb_S16384x128_S512x128_0_0).toLoadRect X_arg3) (arg2.view.readAt (Elt F) (Rect.unit (s := S8x128x256) ![2, 0, 0] S1x128x256.size inb_S8x128x256_S1x128x256_2_0_0).toLoadRect X_arg2)⟩,
    ⟨Rect.unit (s := S2x8x512x256) ![0, 1, 0, 0] S1x1x512x256.size inb_S2x8x512x256_S1x1x512x256_0_1_0_0, k0_pay115 (arg3.view.readAt (Elt F) (Rect.unit (s := S16384x128) ![0, 0] S512x128.size inb_S16384x128_S512x128_0_0).toLoadRect X_arg3) (arg2.view.readAt (Elt F) (Rect.unit (s := S8x128x256) ![1, 0, 0] S1x128x256.size inb_S8x128x256_S1x128x256_1_0_0).toLoadRect X_arg2)⟩,
    ⟨Rect.unit (s := S2x8x512x256) ![0, 0, 0, 0] S1x1x512x256.size inb_S2x8x512x256_S1x1x512x256_0_0_0_0, k0_pay114 (arg3.view.readAt (Elt F) (Rect.unit (s := S16384x128) ![0, 0] S512x128.size inb_S16384x128_S512x128_0_0).toLoadRect X_arg3) (arg2.view.readAt (Elt F) (Rect.unit (s := S8x128x256) ![0, 0, 0] S1x128x256.size inb_S8x128x256_S1x128x256_0_0_0).toLoadRect X_arg2)⟩]

/-- The piece that clears the weight scratch's second slot. -/
abbrev pc7 : View.Piece (Elt F) S2x8x512x256 .bf16 :=
  ⟨Rect.unit (s := S2x8x512x256) ![1, 0, 0, 0] S1x8x512x256.size inb_S2x8x512x256_S1x8x512x256_1_0_0_0, k0_pay124⟩

/-- A place of the second slot lies in the cleared piece. -/
theorem mem_pc7 (n : ℕ) (hn : ∀ a, (![1, n, 0, 0] : Fin 4 → ℕ) a + S1x1x512x256.size a ≤ S2x8x512x256.size a)
    (j : S1x1x512x256.Idx) : (Rect.unit (s := S2x8x512x256) ![1, n, 0, 0] S1x1x512x256.size hn).toLoadRect.idx j ∈ (pc7 (F := F)).1.set := by
  have hn' : n + 1 ≤ 8 := hn 1
  refine LoadRect.mem_set _ |>.mpr fun a => ?_
  fin_cases a
  · exact ⟨(j 0).val, (j 0).isLt, rfl⟩
  · have h1 : (j 1).val < 1 := (j 1).isLt
    refine ⟨n + (j 1).val, show n + (j 1).val < 8 by omega, ?_⟩
    show n + 1 * (j 1).val = 0 + 1 * (n + (j 1).val)
    omega
  · exact ⟨(j 2).val, (j 2).isLt, rfl⟩
  · exact ⟨(j 3).val, (j 3).isLt, rfl⟩

/-- A load of the second slot after the loop, from the contents the loop was entered with. -/
theorem readCov_slot (L : List (View.Piece (Elt F) S2x8x512x256 .bf16)) (n : ℕ)
    (hn : ∀ a, (![1, n, 0, 0] : Fin 4 → ℕ) a + S1x1x512x256.size a ≤ S2x8x512x256.size a) :
    arg7.view.readCov (L ++ [pc7]) (Rect.unit (s := S2x8x512x256) ![1, n, 0, 0] S1x1x512x256.size hn).toLoadRect
      = arg7.view.readAt (Elt F) (Rect.unit (s := S2x8x512x256) ![1, n, 0, 0] S1x1x512x256.size hn).toLoadRect
          (arg7.view.writes (Elt F) (arg7.view.writes (Elt F) f7 [pc7]) L) := by
  rw [← View.writes_append]
  exact (View.readAt_writes_of_cover _ _ _ _ fun j => ⟨pc7, List.mem_append_right _ List.mem_cons_self, mem_pc7 n hn j⟩).symm

/-- The weights waiting at the loop's entry are zero. -/
theorem entry_weights (h : Fin 8) : pAt arg7 (arg7.view.writes (Elt F) f7 [pc7]) 1 h = (initH arg2 arg3 X_arg2 X_arg3 h).p := by
  funext j
  obtain ⟨x, hx⟩ := LoadRect.exists_idx_of_mem _ (mem_pc7 (F := F) h.val (slot_inb 1 h) (Shape.reshapeEquiv shapeCasts_S1x1x512x256_S512x256 j))
  exact (View.read_writes_cons_hit arg7.view f7 (pc7 (F := F)).1 _ [] x _ hx)

/-- The scores waiting at the loop's entry are the first block's. -/
theorem entry_scores (h : Fin 8) : sAt arg6 (G6 arg2 arg3 arg6 X_arg2 X_arg3 f6) 0 h = (initH arg2 arg3 X_arg2 X_arg3 h).s := by
  simp only [sAt, initH]
  fin_cases h <;>
  · simp only [Fin.val_zero, Fin.val_one]
    simp (decide := true) only [↓readAt_skip, readAt_hit]
    exact shapeCast_shapeCast _ _ _

/-- The pieces the body leaves in the result's block, in closed form. -/
theorem bodyRun_pieces : (bodyRun (F := F) 𝒱 c bd i arg2 harg2 arg3 harg3 arg4 harg4 arg5 harg5 arg6 harg6 arg7 harg7 X_arg2 X_arg3 X_arg4 f6 f7).1 = outL arg2 arg3 arg4 X_arg2 X_arg3 X_arg4 := by
  obtain ⟨e1, -, e2⟩ := st_closed 𝒱 c bd i arg2 harg2 arg3 harg3 arg4 harg4 arg5 harg5 arg6 harg6 arg7 harg7 (k0_pay122 (k0_pay113 (arg3.view.readAt (Elt F) (Rect.unit (s := S16384x128) ![0, 0] S512x128.size inb_S16384x128_S512x128_0_0).toLoadRect X_arg3)) (arg2.view.readAt (Elt F) (Rect.unit (s := S8x128x256) ![7, 0, 0] S1x128x256.size inb_S8x128x256_S1x128x256_7_0_0).toLoadRect X_arg2)) X_arg2 X_arg3 X_arg4 (initH arg2 arg3 X_arg2 X_arg3)
    (G6 arg2 arg3 arg6 X_arg2 X_arg3 f6) (arg7.view.writes (Elt F) f7 [pc7]) (entry_scores arg2 arg3 arg6 X_arg2 X_arg3 f6)
    (entry_weights arg2 arg3 arg7 X_arg2 X_arg3 f7) k0_t1_loop.trips le_rfl
  generalize hT : stOf 𝒱 c bd i arg2 harg2 arg3 harg3 arg4 harg4 arg5 harg5 arg6 harg6 arg7 harg7 (k0_pay122 (k0_pay113 (arg3.view.readAt (Elt F) (Rect.unit (s := S16384x128) ![0, 0] S512x128.size inb_S16384x128_S512x128_0_0).toLoadRect X_arg3)) (arg2.view.readAt (Elt F) (Rect.unit (s := S8x128x256) ![7, 0, 0] S1x128x256.size inb_S8x128x256_S1x128x256_7_0_0).toLoadRect X_arg2)) X_arg2 X_arg3 X_arg4 (initH arg2 arg3 X_arg2 X_arg3)
    (G6 arg2 arg3 arg6 X_arg2 X_arg3 f6) (arg7.view.writes (Elt F) f7 [pc7]) k0_t1_loop.trips = T at e1 e2
  obtain ⟨T1, T6, T7⟩ := T
  dsimp only at e1 e2
  subst e1
  unfold bodyRun
  simp only [bodyRun.sl.r, bodyRun.sl.r_1, bodyRun.sl.r_10, bodyRun.sl.r_11, bodyRun.sl.r_12, bodyRun.sl.r_13, bodyRun.sl.r_14, bodyRun.sl.r_15, bodyRun.sl.r_16, bodyRun.sl.r_17, bodyRun.sl.r_18, bodyRun.sl.r_19, bodyRun.sl.r_2, bodyRun.sl.r_20, bodyRun.sl.r_21, bodyRun.sl.r_22, bodyRun.sl.r_23, bodyRun.sl.r_24, bodyRun.sl.r_25, bodyRun.sl.r_26, bodyRun.sl.r_27, bodyRun.sl.r_3, bodyRun.sl.r_4, bodyRun.sl.r_5, bodyRun.sl.r_6, bodyRun.sl.r_7, bodyRun.sl.r_8, bodyRun.sl.r_9, bodyRun.sl.v100, bodyRun.sl.v106, bodyRun.sl.v112, bodyRun.sl.v70, bodyRun.sl.v76, bodyRun.sl.v82, bodyRun.sl.v88, bodyRun.sl.v94]
  have hT' : st_k0_t1 (F := F) 𝒱 c bd i arg2 harg2 arg3 harg3 arg4 harg4 arg5 harg5 arg6 harg6 arg7 harg7 (k0_pay122 (k0_pay113 (arg3.view.readAt (Elt F) (Rect.unit (s := S16384x128) ![0, 0] S512x128.size inb_S16384x128_S512x128_0_0).toLoadRect X_arg3)) (arg2.view.readAt (Elt F) (Rect.unit (s := S8x128x256) ![7, 0, 0] S1x128x256.size inb_S8x128x256_S1x128x256_7_0_0).toLoadRect X_arg2)) X_arg2 X_arg3 X_arg4 (G6 arg2 arg3 arg6 X_arg2 X_arg3 f6) (arg7.view.writes (Elt F) f7 [pc7])
    (k0_pay125, k0_pay125, k0_pay125, k0_pay125, k0_pay125, k0_pay125, k0_pay125, k0_pay125, k0_pay126, k0_pay126, k0_pay126, k0_pay126, k0_pay126, k0_pay126, k0_pay126, k0_pay126, k0_pay127, k0_pay127, k0_pay127, k0_pay127, k0_pay127, k0_pay127, k0_pay127, k0_pay127) (Scf.trips k0_t1_loop.lb k0_t1_loop.ub k0_t1_loop.st) = _ := hT
  simp only [hT', readCov_slot arg7 f7]
  simp only [outL, accF, endH, ← e2]
  rfl

end Body

end Cert.KernelIdeal.Flash

end
-- ==== Proof.FlashPure.lean ====
module

public import proofs.«01_k».proof.Proof.FlashOut
public import Idealize.ShloMosaic.Lib.Pointwise

@[expose] public section

set_option maxRecDepth 16384

noncomputable section

namespace Cert.KernelIdeal.Flash

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F]

section Pure
variable (Q : FVec F S8x128x256 .bf16) (K : FVec F S16384x128 .bf16) (V : FVec F S2x80x16384 .bf16)

/-- The block number `n`, the last one for any `n` past it. -/
def nf (n : ℕ) : Fin 32 := ⟨min n 31, by omega⟩

/-- Head `h`'s padded queries. -/
def qOf (h : Fin 8) : FVec F S1x128x256 .bf16 := fun j => Q (ix3 h (j 1) (j 2))

/-- The keys' block `n`. -/
def kOf (n : Fin 32) : FVec F S512x128 .bf16 := fun j => K (ix2 ⟨512 * n.val + (j 0).val, by have : (j 0).val < 512 := (j 0).isLt; omega⟩ (j 1))

/-- The values' block `n`, of head `h`'s group. -/
def vOf (h : Fin 8) (n : Fin 32) : FVec F S1x80x512 .bf16 := fun j =>
  V (ix3 ⟨h.val / 4, by omega⟩ (j 1) ⟨512 * n.val + (j 2).val, by have : (j 2).val < 512 := (j 2).isLt; omega⟩)

/-- One head's state after `n` half steps. -/
def hp (h : Fin 8) : ℕ → HS F
  | 0 =>
    { m := broadcast S1x256 (Scalar.ofBits .f32 0xFF800000#32)
      a := broadcast S1x256 (Scalar.ofBits .f32 0x3F800000#32)
      x := broadcast S80x256 (Scalar.ofBits .f32 0x00000000#32)
      s := scoreV (kOf K (nf 0)) (qOf Q h)
      p := broadcast S512x256 (Scalar.ofBits .bf16 0x0000#16) }
  | n + 1 => half (qOf Q h) (kOf K (nf (n + 1))) (vOf V h (nf (n - 1))) (hp h n)

/-- One head's final accumulator. -/
def accP (h : Fin 8) : FVec F S80x256 .f32 := accV (hp Q K V h 32).a (hp Q K V h 32).x (vOf V h (nf 31)) (hp Q K V h 32).p

/-- The result's block: head `h`'s output at rows `64 h` to `64 h + 63`. -/
def outF : FVec F S512x256 .bf16 := fun i =>
  divV (accP Q K V ⟨(i 0).val / 64, by have : (i 0).val < 512 := (i 0).isLt; omega⟩) (ix2 ⟨(i 0).val % 64, Nat.mod_lt _ (by decide)⟩ (i 1))

end Pure

/-- The loop's offsets, in closed form. -/
theorem offs : ∀ k : Fin k0_t1_loop.trips,
    (k0_off1 k = ![512 * (2 * k.val + 1), 0] ∧ k0_off4 k = ![512 * min (2 * k.val + 2) 31, 0])
    ∧ (k0_off2 k = ![0, 0, 512 * (2 * k.val - 1)] ∧ k0_off3 k = ![1, 0, 512 * (2 * k.val - 1)])
    ∧ (k0_off5 k = ![0, 0, 512 * (2 * k.val)] ∧ k0_off6 k = ![1, 0, 512 * (2 * k.val)]) := by
  decide +kernel

/-- The loop makes 16 trips. -/
theorem trips_eq : k0_t1_loop.trips = 16 := by decide +kernel

section Bridge
variable (arg2 : Memref sig .tc .vmem S8x128x256 .bf16) (arg3 : Memref sig .tc .vmem S16384x128 .bf16) (arg4 : Memref sig .tc .vmem S2x80x16384 .bf16)
  (X_arg2 : BufTy.Contents (Elt F) arg2.view.ty) (X_arg3 : BufTy.Contents (Elt F) arg3.view.ty) (X_arg4 : BufTy.Contents (Elt F) arg4.view.ty)

/-- A head's queries are read off what the block holds. -/
theorem qAt_eq (h : Fin 8) : qAt arg2 X_arg2 h = qOf (arg2.view.read (Elt F) X_arg2) h := by
  funext j
  refine congrArg (arg2.view.read (Elt F) X_arg2) (funext fun a => Fin.ext ?_)
  have h0 : (j 0).val < 1 := (j 0).isLt
  fin_cases a
  · show h.val + 1 * (j 0).val = h.val; omega
  · show 0 + 1 * (j 1).val = (j 1).val; omega
  · show 0 + 1 * (j 2).val = (j 2).val; omega

/-- A load of 512 keys is a block of what the keys' buffer holds. -/
theorem kRead_eq (off : Fin 2 → ℕ) (hi : ∀ a, off a + S512x128.size a ≤ S16384x128.size a) (n : Fin 32) (ho : off = ![512 * n.val, 0]) :
    arg3.view.readAt (Elt F) (Rect.unit (s := S16384x128) off S512x128.size hi).toLoadRect X_arg3 = kOf (arg3.view.read (Elt F) X_arg3) n := by
  subst ho
  funext j
  refine congrArg (arg3.view.read (Elt F) X_arg3) (funext fun a => Fin.ext ?_)
  fin_cases a
  · show 512 * n.val + 1 * (j 0).val = 512 * n.val + (j 0).val; omega
  · show 0 + 1 * (j 1).val = (j 1).val; omega

/-- A load of 512 values is a block of what the values' buffer holds. -/
theorem vRead_eq (off : Fin 3 → ℕ) (hi : ∀ a, off a + S1x80x512.size a ≤ S2x80x16384.size a) (h : Fin 8) (n : Fin 32)
    (ho : off = ![h.val / 4, 0, 512 * n.val]) :
    arg4.view.readAt (Elt F) (Rect.unit (s := S2x80x16384) off S1x80x512.size hi).toLoadRect X_arg4 = vOf (arg4.view.read (Elt F) X_arg4) h n := by
  subst ho
  funext j
  refine congrArg (arg4.view.read (Elt F) X_arg4) (funext fun a => Fin.ext ?_)
  have h0 : (j 0).val < 1 := (j 0).isLt
  fin_cases a
  · show h.val / 4 + 1 * (j 0).val = h.val / 4; omega
  · show 0 + 1 * (j 1).val = (j 1).val; omega
  · show 512 * n.val + 1 * (j 2).val = 512 * n.val + (j 2).val; omega

/-- The two values' loads, by head, are blocks of what the values' buffer holds. -/
theorem vIte_eq (o p : Fin 3 → ℕ) (hi : ∀ a, o a + S1x80x512.size a ≤ S2x80x16384.size a) (hj : ∀ a, p a + S1x80x512.size a ≤ S2x80x16384.size a)
    (h : Fin 8) (n : Fin 32) (ho : o = ![0, 0, 512 * n.val]) (hq : p = ![1, 0, 512 * n.val]) :
    (if h.val < 4 then arg4.view.readAt (Elt F) (Rect.unit (s := S2x80x16384) o S1x80x512.size hi).toLoadRect X_arg4
      else arg4.view.readAt (Elt F) (Rect.unit (s := S2x80x16384) p S1x80x512.size hj).toLoadRect X_arg4) = vOf (arg4.view.read (Elt F) X_arg4) h n := by
  split
  · exact vRead_eq _ _ _ _ h n (by rw [ho, show h.val / 4 = 0 by omega])
  · exact vRead_eq _ _ _ _ h n (by rw [hq, show h.val / 4 = 1 by omega])

/-- A state at the loop's entry, off what the buffers hold. -/
theorem initH_eq (h : Fin 8) : initH arg2 arg3 X_arg2 X_arg3 h = hp (arg2.view.read (Elt F) X_arg2) (arg3.view.read (Elt F) X_arg3) (arg4.view.read (Elt F) X_arg4) h 0 := by
  unfold initH hp
  rw [qAt_eq, kF, kRead_eq _ _ ![0, 0] _ (nf 0) rfl]

/-- A state after `k` trips is the one after `2 k` half steps. -/
theorem stH_eq : ∀ k ≤ 16, ∀ h : Fin 8, stH arg2 arg3 arg4 X_arg2 X_arg3 X_arg4 (initH arg2 arg3 X_arg2 X_arg3) k h = hp (arg2.view.read (Elt F) X_arg2) (arg3.view.read (Elt F) X_arg3) (arg4.view.read (Elt F) X_arg4) h (2 * k)
  | 0, _, h => initH_eq _ _ _ _ _ _ h
  | k + 1, hk, h => by
    have ih := stH_eq k (by omega) h
    have hk' : k < k0_t1_loop.trips := by rw [trips_eq]; omega
    obtain ⟨⟨o1, o4⟩, ⟨o2, o3⟩, o5, o6⟩ := offs ⟨k, hk'⟩
    have es : stH arg2 arg3 arg4 X_arg2 X_arg3 X_arg4 (initH arg2 arg3 X_arg2 X_arg3) (k + 1) h = two arg2 arg3 arg4 X_arg2 X_arg3 X_arg4 ⟨k, hk'⟩ (stH arg2 arg3 arg4 X_arg2 X_arg3 X_arg4 (initH arg2 arg3 X_arg2 X_arg3) k) h := by
      rw [stH]; exact dif_pos hk'
    rw [es, two, ih, show 2 * (k + 1) = (2 * k + 1) + 1 by omega, hp, hp, qAt_eq, kA, kB, vA, vB]
    rw [kRead_eq _ _ (k0_off1 ⟨k, hk'⟩) _ (nf (2 * k + 1)) (by rw [o1, nf]; show ![512 * (2 * k + 1), 0] = ![512 * min (2 * k + 1) 31, 0]; rw [Nat.min_eq_left (by omega)]),
      kRead_eq _ _ (k0_off4 ⟨k, hk'⟩) _ (nf (2 * k + 1 + 1)) (by rw [o4, nf]),
      vIte_eq _ _ (k0_off2 ⟨k, hk'⟩) (k0_off3 ⟨k, hk'⟩) _ _ h (nf (2 * k - 1)) (by rw [o2, nf]; show ![0, 0, 512 * (2 * k - 1)] = ![0, 0, 512 * min (2 * k - 1) 31]; rw [Nat.min_eq_left (by omega)])
        (by rw [o3, nf]; show ![1, 0, 512 * (2 * k - 1)] = ![1, 0, 512 * min (2 * k - 1) 31]; rw [Nat.min_eq_left (by omega)]),
      vIte_eq _ _ (k0_off5 ⟨k, hk'⟩) (k0_off6 ⟨k, hk'⟩) _ _ h (nf (2 * k + 1 - 1)) (by rw [o5, nf]; show ![0, 0, 512 * (2 * k)] = ![0, 0, 512 * min (2 * k + 1 - 1) 31]; rw [Nat.min_eq_left (by omega), Nat.add_sub_cancel])
        (by rw [o6, nf]; show ![1, 0, 512 * (2 * k)] = ![1, 0, 512 * min (2 * k + 1 - 1) 31]; rw [Nat.min_eq_left (by omega), Nat.add_sub_cancel])]

/-- A head's final accumulator, off what the buffers hold. -/
theorem accF_eq (h : Fin 8) : accF arg2 arg3 arg4 X_arg2 X_arg3 X_arg4 h = accP (arg2.view.read (Elt F) X_arg2) (arg3.view.read (Elt F) X_arg3) (arg4.view.read (Elt F) X_arg4) h := by
  unfold accF endH accP
  rw [show k0_t1_loop.trips = 16 from trips_eq, stH_eq _ _ _ _ _ _ 16 le_rfl h, vL, vIte_eq _ _ ![0, 0, 15872] ![1, 0, 15872] _ _ h (nf 31) rfl rfl]

/-- A place of the result's block, by its place in its head's rows. -/
theorem row_coords (i : S512x256.Idx) (o : ℕ) (hi : ∀ a, (![o, 0] : Fin 2 → ℕ) a + S64x256.size a ≤ S512x256.size a) (ho : (i 0).val = o + (i 0).val % 64)
    (a : Fin 2) : (i a).val = (Rect.unit (s := S512x256) ![o, 0] S64x256.size hi).off a
      + (Rect.unit (s := S512x256) ![o, 0] S64x256.size hi).stride a * ((ix2 ⟨(i 0).val % 64, Nat.mod_lt _ (by decide)⟩ (i 1) : S64x256.Idx) a).val := by
  fin_cases a
  · show (i 0).val = o + 1 * ((i 0).val % 64); omega
  · show (i 1).val = 0 + 1 * (i 1).val; omega

/-- What the result's block reads after the body. -/
theorem read_outL (arg5 : Memref sig .tc .vmem S512x256 .bf16) (f5 : BufTy.Contents (Elt F) arg5.view.ty) :
    arg5.view.read (Elt F) (arg5.view.writes (Elt F) f5 (outL arg2 arg3 arg4 X_arg2 X_arg3 X_arg4)) = outF (arg2.view.read (Elt F) X_arg2) (arg3.view.read (Elt F) X_arg3) (arg4.view.read (Elt F) X_arg4) := by
  funext i
  unfold outL
  have hi : (i 0).val < 512 := (i 0).isLt
  obtain h | h | h | h | h | h | h | h : ((i 0).val / 64 = 0 ∨ (i 0).val / 64 = 1 ∨ (i 0).val / 64 = 2 ∨ (i 0).val / 64 = 3 ∨ (i 0).val / 64 = 4
    ∨ (i 0).val / 64 = 5 ∨ (i 0).val / 64 = 6 ∨ (i 0).val / 64 = 7) := by omega
  · refine (View.read_writes_cons_miss_of_axis _ _ _ _ i 0 448 64 rfl rfl rfl (.inl (show (i 0).val < 448 by omega))).trans ?_
    refine (View.read_writes_cons_miss_of_axis _ _ _ _ i 0 384 64 rfl rfl rfl (.inl (show (i 0).val < 384 by omega))).trans ?_
    refine (View.read_writes_cons_miss_of_axis _ _ _ _ i 0 320 64 rfl rfl rfl (.inl (show (i 0).val < 320 by omega))).trans ?_
    refine (View.read_writes_cons_miss_of_axis _ _ _ _ i 0 256 64 rfl rfl rfl (.inl (show (i 0).val < 256 by omega))).trans ?_
    refine (View.read_writes_cons_miss_of_axis _ _ _ _ i 0 192 64 rfl rfl rfl (.inl (show (i 0).val < 192 by omega))).trans ?_
    refine (View.read_writes_cons_miss_of_axis _ _ _ _ i 0 128 64 rfl rfl rfl (.inl (show (i 0).val < 128 by omega))).trans ?_
    refine (View.read_writes_cons_miss_of_axis _ _ _ _ i 0 64 64 rfl rfl rfl (.inl (show (i 0).val < 64 by omega))).trans ?_
    refine (View.read_writes_cons_hit_of_coords _ _ _ _ _ (ix2 ⟨(i 0).val % 64, Nat.mod_lt _ (by decide)⟩ (i 1)) _ (row_coords i 0 _ (by omega))).trans ?_
    rw [accF_eq, outF, show (⟨(i 0).val / 64, by omega⟩ : Fin 8) = 0 from Fin.ext h]
    rfl
  · refine (View.read_writes_cons_miss_of_axis _ _ _ _ i 0 448 64 rfl rfl rfl (.inl (show (i 0).val < 448 by omega))).trans ?_
    refine (View.read_writes_cons_miss_of_axis _ _ _ _ i 0 384 64 rfl rfl rfl (.inl (show (i 0).val < 384 by omega))).trans ?_
    refine (View.read_writes_cons_miss_of_axis _ _ _ _ i 0 320 64 rfl rfl rfl (.inl (show (i 0).val < 320 by omega))).trans ?_
    refine (View.read_writes_cons_miss_of_axis _ _ _ _ i 0 256 64 rfl rfl rfl (.inl (show (i 0).val < 256 by omega))).trans ?_
    refine (View.read_writes_cons_miss_of_axis _ _ _ _ i 0 192 64 rfl rfl rfl (.inl (show (i 0).val < 192 by omega))).trans ?_
    refine (View.read_writes_cons_miss_of_axis _ _ _ _ i 0 128 64 rfl rfl rfl (.inl (show (i 0).val < 128 by omega))).trans ?_
    refine (View.read_writes_cons_hit_of_coords _ _ _ _ _ (ix2 ⟨(i 0).val % 64, Nat.mod_lt _ (by decide)⟩ (i 1)) _ (row_coords i 64 _ (by omega))).trans ?_
    rw [accF_eq, outF, show (⟨(i 0).val / 64, by omega⟩ : Fin 8) = 1 from Fin.ext h]
    rfl
  · refine (View.read_writes_cons_miss_of_axis _ _ _ _ i 0 448 64 rfl rfl rfl (.inl (show (i 0).val < 448 by omega))).trans ?_
    refine (View.read_writes_cons_miss_of_axis _ _ _ _ i 0 384 64 rfl rfl rfl (.inl (show (i 0).val < 384 by omega))).trans ?_
    refine (View.read_writes_cons_miss_of_axis _ _ _ _ i 0 320 64 rfl rfl rfl (.inl (show (i 0).val < 320 by omega))).trans ?_
    refine (View.read_writes_cons_miss_of_axis _ _ _ _ i 0 256 64 rfl rfl rfl (.inl (show (i 0).val < 256 by omega))).trans ?_
    refine (View.read_writes_cons_miss_of_axis _ _ _ _ i 0 192 64 rfl rfl rfl (.inl (show (i 0).val < 192 by omega))).trans ?_
    refine (View.read_writes_cons_hit_of_coords _ _ _ _ _ (ix2 ⟨(i 0).val % 64, Nat.mod_lt _ (by decide)⟩ (i 1)) _ (row_coords i 128 _ (by omega))).trans ?_
    rw [accF_eq, outF, show (⟨(i 0).val / 64, by omega⟩ : Fin 8) = 2 from Fin.ext h]
    rfl
  · refine (View.read_writes_cons_miss_of_axis _ _ _ _ i 0 448 64 rfl rfl rfl (.inl (show (i 0).val < 448 by omega))).trans ?_
    refine (View.read_writes_cons_miss_of_axis _ _ _ _ i 0 384 64 rfl rfl rfl (.inl (show (i 0).val < 384 by omega))).trans ?_
    refine (View.read_writes_cons_miss_of_axis _ _ _ _ i 0 320 64 rfl rfl rfl (.inl (show (i 0).val < 320 by omega))).trans ?_
    refine (View.read_writes_cons_miss_of_axis _ _ _ _ i 0 256 64 rfl rfl rfl (.inl (show (i 0).val < 256 by omega))).trans ?_
    refine (View.read_writes_cons_hit_of_coords _ _ _ _ _ (ix2 ⟨(i 0).val % 64, Nat.mod_lt _ (by decide)⟩ (i 1)) _ (row_coords i 192 _ (by omega))).trans ?_
    rw [accF_eq, outF, show (⟨(i 0).val / 64, by omega⟩ : Fin 8) = 3 from Fin.ext h]
    rfl
  · refine (View.read_writes_cons_miss_of_axis _ _ _ _ i 0 448 64 rfl rfl rfl (.inl (show (i 0).val < 448 by omega))).trans ?_
    refine (View.read_writes_cons_miss_of_axis _ _ _ _ i 0 384 64 rfl rfl rfl (.inl (show (i 0).val < 384 by omega))).trans ?_
    refine (View.read_writes_cons_miss_of_axis _ _ _ _ i 0 320 64 rfl rfl rfl (.inl (show (i 0).val < 320 by omega))).trans ?_
    refine (View.read_writes_cons_hit_of_coords _ _ _ _ _ (ix2 ⟨(i 0).val % 64, Nat.mod_lt _ (by decide)⟩ (i 1)) _ (row_coords i 256 _ (by omega))).trans ?_
    rw [accF_eq, outF, show (⟨(i 0).val / 64, by omega⟩ : Fin 8) = 4 from Fin.ext h]
    rfl
  · refine (View.read_writes_cons_miss_of_axis _ _ _ _ i 0 448 64 rfl rfl rfl (.inl (show (i 0).val < 448 by omega))).trans ?_
    refine (View.read_writes_cons_miss_of_axis _ _ _ _ i 0 384 64 rfl rfl rfl (.inl (show (i 0).val < 384 by omega))).trans ?_
    refine (View.read_writes_cons_hit_of_coords _ _ _ _ _ (ix2 ⟨(i 0).val % 64, Nat.mod_lt _ (by decide)⟩ (i 1)) _ (row_coords i 320 _ (by omega))).trans ?_
    rw [accF_eq, outF, show (⟨(i 0).val / 64, by omega⟩ : Fin 8) = 5 from Fin.ext h]
    rfl
  · refine (View.read_writes_cons_miss_of_axis _ _ _ _ i 0 448 64 rfl rfl rfl (.inl (show (i 0).val < 448 by omega))).trans ?_
    refine (View.read_writes_cons_hit_of_coords _ _ _ _ _ (ix2 ⟨(i 0).val % 64, Nat.mod_lt _ (by decide)⟩ (i 1)) _ (row_coords i 384 _ (by omega))).trans ?_
    rw [accF_eq, outF, show (⟨(i 0).val / 64, by omega⟩ : Fin 8) = 6 from Fin.ext h]
    rfl
  · refine (View.read_writes_cons_hit_of_coords _ _ _ _ _ (ix2 ⟨(i 0).val % 64, Nat.mod_lt _ (by decide)⟩ (i 1)) _ (row_coords i 448 _ (by omega))).trans ?_
    rw [accF_eq, outF, show (⟨(i 0).val / 64, by omega⟩ : Fin 8) = 7 from Fin.ext h]
    rfl

end Bridge

end Cert.KernelIdeal.Flash

end
-- ==== Proof.FlashRun.lean ====
module

public import proofs.«01_k».proof.Proof.FlashPure

@[expose] public section

set_option maxRecDepth 16384

noncomputable section

namespace Cert.KernelIdeal.Flash

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The result's block at a point, off the blocks of the three operands. -/
def blkOut (c : Dev nD) (t : Fin cfg0.N) : FVec F S512x256 .bf16 := outF (iblk m c 0 t) (iblk m c 1 t) (iblk m c 2 t)

/-- The pipeline's proof data: every operand's block stays as fetched, the result's block is the attention's, the scratch is
    whatever the points before left. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => blkOut m c t
  Φ _ := Pipeline.ΦA spec0 c
  q _ := fullShare
  owed _ := 0

/-- Each array enters the region as the host operations leave it. -/
theorem A_eq (c : Dev nD) (w : Fin cfg0.W) : (dats m 0 c).A w = V m c (Pipeline.arrRef spec0 w) := by
  dsimp only [dats]

/-- The queries' block is as fetched. -/
theorem after_0 (c : Dev nD) (t : Fin cfg0.N) : (dats m 0 c).after 0 t = iblk m c 0 t := by dsimp only [dats]
/-- The keys are as fetched. -/
theorem after_1 (c : Dev nD) (t : Fin cfg0.N) : (dats m 0 c).after 1 t = iblk m c 1 t := by dsimp only [dats]
/-- The values are as fetched. -/
theorem after_2 (c : Dev nD) (t : Fin cfg0.N) : (dats m 0 c).after 2 t = iblk m c 2 t := by dsimp only [dats]
/-- The result's block holds the attention's output. -/
theorem after_3 (c : Dev nD) (t : Fin cfg0.N) : (dats m 0 c).after 3 t = blkOut m c t := by dsimp only [dats]

/-- The body's run with what is left to show after it. -/
theorem body_step (𝒱 : Variants) (c : Dev nD) (bd : Option 𝒱.V) (i : grid0.Coords)
    (arg2 : Memref sig .tc .vmem S8x128x256 .bf16) (harg2 : arg2.IsWhole) (arg3 : Memref sig .tc .vmem S16384x128 .bf16) (harg3 : arg3.IsWhole)
    (arg4 : Memref sig .tc .vmem S2x80x16384 .bf16) (harg4 : arg4.IsWhole) (arg5 : Memref sig .tc .vmem S512x256 .bf16) (harg5 : arg5.IsWhole)
    (arg6 : Memref sig .tc .vmem S2x8x512x256 .f32) (harg6 : arg6.IsWhole) (arg7 : Memref sig .tc .vmem S2x8x512x256 .bf16) (harg7 : arg7.IsWhole)
    (X2 : BufTy.Contents (Elt F) arg2.view.ty) (X3 : BufTy.Contents (Elt F) arg3.view.ty) (X4 : BufTy.Contents (Elt F) arg4.view.ty)
    (f5 : BufTy.Contents (Elt F) arg5.view.ty)
    (f6 : BufTy.Contents (Elt F) arg6.view.ty) (f7 : BufTy.Contents (Elt F) arg7.view.ty) (E : Set ℕ) (Q : PUnit → sProp 𝕄) :
    iprop((own c arg2 X2 ∗ own c arg3 X3 ∗ own c arg4 X4 ∗ own c arg5 f5 ∗ own c arg6 f6 ∗ own c arg7 f7)
      ∗ (∀ a : PUnit, (own c arg2 X2 ∗ own c arg3 X3 ∗ own c arg4 X4
          ∗ own c arg5 (arg5.view.writes (Elt F) f5 (bodyRun 𝒱 c bd i arg2 harg2 arg3 harg3 arg4 harg4 arg5 harg5 arg6 harg6 arg7 harg7 X2 X3 X4 f6 f7).1)
          ∗ (∃ f, own c arg6 f) ∗ ∃ f, own c arg7 f) -∗ Q a))
      ⊢ wp frame (wpE (defs₀ (F := F)) 𝒱 (c : Thread nD τ) bd) E
          (cc0_flash (F := F) i arg2 harg2 arg3 harg3 arg4 harg4 arg5 harg5 arg6 harg6 arg7 harg7) Q :=
  (sep_mono ((bodyRun 𝒱 c bd i arg2 harg2 arg3 harg3 arg4 harg4 arg5 harg5 arg6 harg6 arg7 harg7 X2 X3 X4 f6 f7).2 E f5) .rfl).trans
    (wp_wand_r _ _ _)

/-- The body at every point: from the three blocks and any scratch to the attention's block. -/
theorem body_obligation (c : Dev nD) : BodyObligation (dats m 0 c) (defs₀ (F := F)) Variants.none () Set.univ := fun t => by
  rw [bigSep_W0, bigSep_W0]
  rw [show (dats m 0 c).Φ t.castSucc = Pipeline.ΦA spec0 c from rfl, show (dats m 0 c).Φ t.succ = Pipeline.ΦA spec0 c from rfl]
  unfold Pipeline.ΦA Dat.owesAt Pipeline.owesWithin; rw [scopedRest0_eq]
  rw [show (dats m 0 c).owed t.castSucc = 0 from rfl, show (dats m 0 c).owed t.succ = 0 from rfl]
  iintro ⟨⟨⟨⟨%f6, H6⟩, ⟨%f7, H7⟩⟩, Hp⟩, ⟨%W, %hW, HO⟩, ⟨%d0, H0⟩, ⟨%d1, H1⟩, ⟨%d2, H2⟩, ⟨%d3, H3⟩⟩
  rw [before0_0_of m _ (A_eq m c 0) (after_0 m c), before0_1_of m _ (A_eq m c 1) (after_1 m c), before0_2_of m _ (A_eq m c 2) (after_2 m c)]
  unfold owns
  icases H0 with ⟨%X2, %hX2, H0⟩
  icases H1 with ⟨%X3, %hX3, H1⟩
  icases H2 with ⟨%X4, %hX4, H2⟩
  icases H3 with ⟨%f5, -, H3⟩
  iapply (body_step (F := F) Variants.none c none (grid0.coords t) (win0_0.stage (cfg0.slots t 0)) (hstage0_0 ((cfg0.slots t 0).cast nbuf0_0))
    (win0_1.stage (cfg0.slots t 1)) (hstage0_1 ((cfg0.slots t 1).cast nbuf0_1)) (win0_2.stage (cfg0.slots t 2)) (hstage0_2 ((cfg0.slots t 2).cast nbuf0_2))
    (win0_3.stage (cfg0.slots t 3)) (hstage0_3 ((cfg0.slots t 3).cast nbuf0_3)) (Memref.whole cc0_scratch0) (Memref.isWhole_whole _)
    (Memref.whole cc0_scratch1) (Memref.isWhole_whole _) X2 X3 X4 f5 f6 f7 Set.univ)
  isplitl [H0 H1 H2 H3 H6 H7]
  · isplitl [H0]; · iexact H0
    isplitl [H1]; · iexact H1
    isplitl [H2]; · iexact H2
    isplitl [H3]; · iexact H3
    isplitl [H6]
    · simp only [own, Memref.view_whole, View.set_whole]; iexact H6
    simp only [own, Memref.view_whole, View.set_whole]; iexact H7
  iintro %a
  iintro ⟨H0, H1, H2, H3, ⟨%g6, H6⟩, ⟨%g7, H7⟩⟩
  isplitl [H6 H7 Hp]
  · isplitr [Hp]
    · isplitl [H6]
      · iexists g6; simp only [own, Memref.view_whole, View.set_whole]; iexact H6
      iexists g7; simp only [own, Memref.view_whole, View.set_whole]; iexact H7
    iexact Hp
  isplitl [HO]
  · iexists W; isplitr; · ipureintro; exact hW
    iexact HO
  isplitl [H0]
  · iexists X2; isplitr; · ipureintro; rw [after_0]; exact hX2
    iexact H0
  isplitl [H1]
  · iexists X3; isplitr; · ipureintro; rw [after_1]; exact hX3
    iexact H1
  isplitl [H2]
  · iexists X4; isplitr; · ipureintro; rw [after_2]; exact hX4
    iexact H2
  iexists _; isplitr; swap; (· iexact H3)
  ipureintro
  rw [bodyRun_pieces, after_3, blkOut, ← hX2, ← hX3, ← hX4]
  exact read_outL _ _ _ _ _ _ _ _

/-- The program's run: the three arguments as launched, the result's array as the pipeline writes it back, every counter at zero. -/
theorem run_main : θ_run defs (onTc (τ := τ) (main (F := F))) ⟨m, fun _ => 0, ρ⟩ (fun r =>
    (∀ c : Dev nD, r.2.mem ((c.tc : Thread nD τ).loc main_v19) = (dats m 0 c).arrAt 3 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
    ∧ r.2.sem = fun _ => 0) :=
  Pipeline.θ_run_frame cfgs (dats m) 0 launch0 defs₀ Variants.none m ρ main (fun c => (body_obligation m c).loose)
    (fun c w => (dats m 0 c).share_full (fun _ => rfl) w) (fun _ _ => rfl) (V m) (hmain m Variants.none) (A_eq m) (fun _ _ => rfl) _
    (fun r h => ⟨fun c => ⟨(h.1 c).1 3,
      ((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c)⟩, h.2⟩)

end Cert.KernelIdeal.Flash

end
-- ==== Proof.Frames.lean ====
module

public import proofs.«01_k».proof.Defs
public import proofs.«01_k».proof.Proof.Gen.Kernel
public import proofs.«01_k».proof.Proof.Gen.ReferenceIdeal.Run
public import proofs.«01_k».proof.Proof.FlashRun

@[expose] public section

set_option maxRecDepth 16384

noncomputable section

namespace Cert.Proof

open Idealize.ShloMosaic Idealize.SL.Sem

/-- The two programs have one body table before their pipelines are added. -/
theorem defs₀_eq : Cert.Kernel.defs₀ (F := Bits) = Cert.KernelIdeal.defs₀ (F := Bits) := by
  unfold Cert.Kernel.defs₀ Cert.KernelIdeal.defs₀
  congr 1
  funext x y
  revert y
  refine Fin.cases ?_ (fun i => i.elim0) x
  rintro ⟨t, s⟩
  rfl

/-- The two programs have one body table. -/
theorem defs_eq : Cert.Kernel.defs (F := Bits) = Cert.KernelIdeal.defs (F := Bits) := by
  unfold Cert.Kernel.defs Cert.KernelIdeal.defs
  rw [defs₀_eq]
  rfl

/-- The kernel as compiled ends with its arguments unchanged and every counter at zero: its text is the idealized kernel's, read
    at bit values. -/
theorem frame_kernel : Cert.quiescent_Kernel (hKernel := Cert.Kernel.Gen.facts) := fun m ρ _ => by
  rw [defs_eq]
  exact (θ_run Cert.KernelIdeal.defs _ _).mono (fun _ h => ⟨fun c => (h.1 c).2, h.2⟩)
    (Cert.KernelIdeal.Flash.run_main (F := Bits) m ρ)

/-- The kernel over the extended reals ends with its arguments unchanged and every counter at zero. -/
theorem frame_kernelIdeal : Cert.quiescent_KernelIdeal (hKernelIdeal := Cert.KernelIdeal.Gen.facts) := fun m ρ _ =>
  (θ_run Cert.KernelIdeal.defs _ _).mono (fun _ h => ⟨fun c => (h.1 c).2, h.2⟩)
    (Cert.KernelIdeal.Flash.run_main (F := Ideal) m ρ)

/-- The reference ends with its arguments unchanged and every counter at zero. -/
theorem frame_referenceIdeal : Cert.quiescent_ReferenceIdeal (hReferenceIdeal := Cert.ReferenceIdeal.Gen.facts) := fun m ρ _ =>
  (θ_run Cert.ReferenceIdeal.defs _ _).mono (fun r h => ⟨fun c => (h c).2, sem_eq_zero_of_no_sems (by decide) r.2⟩)
    (Cert.ReferenceIdeal.Value.run (F := Ideal) m ρ)

end Cert.Proof
-- ==== Proof.Online.lean ====
module

public import Idealize.ShloMosaic.PureOps.Ideal
public import Idealize.ShloMosaic.Lib.Pointwise

@[expose] public section

noncomputable section

/-! The softmax taken block by block: a running maximum, an accumulator rescaled as the maximum moves, and a division at the
end give the softmax taken at once, whatever reals the maxima are. -/

namespace Cert.Online

open Idealize.ShloMosaic

/-- The maximum of finitely many reals, one at least, is a real. -/
theorem fold_real {ι : Type} [Fintype ι] [Nonempty ι] (f : ι → EReal) (hf : ∀ i, ∃ r : ℝ, f i = r) :
    ∃ r : ℝ, Finset.univ.fold max (⊥ : EReal) f = r := by
  have h1 : Finset.univ.fold max (⊥ : EReal) f ≠ ⊤ := by
    refine ne_of_lt ((Finset.fold_max_lt _).2 ⟨bot_lt_top, fun i _ => ?_⟩)
    obtain ⟨r, hr⟩ := hf i
    rw [hr]; exact EReal.coe_lt_top r
  have h2 : Finset.univ.fold max (⊥ : EReal) f ≠ ⊥ := by
    refine ne_of_gt ((Finset.lt_fold_max _).2 (.inr ⟨Classical.arbitrary ι, Finset.mem_univ _, ?_⟩))
    obtain ⟨r, hr⟩ := hf (Classical.arbitrary ι)
    rw [hr]; exact EReal.bot_lt_coe r
  exact ⟨_, (EReal.coe_toReal h1 h2).symm⟩

/-- A nonnegative real factor distributes over a sum of extended reals. -/
theorem mul_sum_real {ι : Type} (S : Finset ι) (f : ι → EReal) (c : ℝ) (hc : 0 ≤ c) :
    (c : EReal) * ∑ i ∈ S, f i = ∑ i ∈ S, (c : EReal) * f i := by
  classical
  induction S using Finset.induction_on with
  | empty => simp
  | insert a S ha ih =>
    rw [Finset.sum_insert ha, Finset.sum_insert ha,
      EReal.left_distrib_of_nonneg_of_ne_top (by exact_mod_cast hc) (EReal.coe_ne_top c), ih]

/-- A sum of reals, read in the extended reals. -/
theorem coe_sum {ι : Type} (S : Finset ι) (f : ι → ℝ) : ((∑ i ∈ S, f i : ℝ) : EReal) = ∑ i ∈ S, (f i : EReal) := by
  classical
  induction S using Finset.induction_on with
  | empty => simp
  | insert a S ha ih => rw [Finset.sum_insert ha, Finset.sum_insert ha, EReal.coe_add, ih]

/-- A power of two of a real difference. -/
theorem exp2_sub (a b : ℝ) : Ideal.exp2 ((a : EReal) - (b : EReal)) = (((2 : ℝ) ^ (a - b) : ℝ) : EReal) := by
  rw [← EReal.coe_sub]; rfl

/-- The exponential of a real difference. -/
theorem exp_sub (a b : ℝ) : Ideal.exp ((a : EReal) - (b : EReal)) = ((Real.exp (a - b) : ℝ) : EReal) := by
  rw [← EReal.coe_sub]; rfl

/-- The accumulator after `n` blocks is the sum over those blocks, relative to the maximum reached. -/
theorem online {ι : Type} [Fintype ι] (s : ℕ → ι → EReal) (v : ℕ → ι → EReal) (M A : ℕ → EReal)
    (hs : ∀ n i, ∃ r : ℝ, s n i = r) (hM : ∀ n, ∃ r : ℝ, M (n + 1) = r) (hA0 : A 0 = 0)
    (hA : ∀ n, A (n + 1) = Ideal.exp2 (M n - M (n + 1)) * A n + ∑ i, v n i * Ideal.exp2 (s n i - M (n + 1))) :
    ∀ n, A n = ∑ b ∈ Finset.range n, ∑ i, v b i * Ideal.exp2 (s b i - M n) := by
  intro n
  induction n with
  | zero => simp [hA0]
  | succ n ih =>
    rw [Finset.sum_range_succ, hA]
    refine congrArg (· + _) ?_
    cases n with
    | zero => simp [hA0]
    | succ k =>
      obtain ⟨x, hx⟩ := hM k
      obtain ⟨y, hy⟩ := hM (k + 1)
      rw [ih, hx, hy, exp2_sub, mul_sum_real _ _ _ (Real.rpow_nonneg (by norm_num) _)]
      refine Finset.sum_congr rfl fun b _ => ?_
      rw [mul_sum_real _ _ _ (Real.rpow_nonneg (by norm_num) _)]
      refine Finset.sum_congr rfl fun i _ => ?_
      obtain ⟨z, hz⟩ := hs b i
      rw [hz, exp2_sub, exp2_sub, mul_left_comm, ← EReal.coe_mul, ← Real.rpow_add (by norm_num), show x - y + (z - x) = z - y by ring]

/-- Division by a positive real. -/
theorem div_real (x : EReal) (L : ℝ) (hL : 0 < L) : Ideal.div x (L : EReal) = x * ((L⁻¹ : ℝ) : EReal) := by
  have h : (L : EReal) ≠ 0 := by exact_mod_cast hL.ne'
  rw [Ideal.div, if_neg h, EReal.coe_inv]

/-- The softmax in base two, divided at the end, is the softmax: scores `t = s · log 2`, each side relative to a real of its own. -/
theorem softmax_eq {κ : Type} [Fintype κ] [Nonempty κ] (s t v : κ → EReal) (M M' : EReal) (hM : ∃ r : ℝ, M = r) (hM' : ∃ r : ℝ, M' = r)
    (hst : ∀ i, ∃ r : ℝ, t i = r ∧ s i = ((r * (Real.log 2)⁻¹ : ℝ) : EReal)) :
    Ideal.div (∑ i, v i * Ideal.exp2 (s i - M)) (∑ i, 1 * Ideal.exp2 (s i - M))
      = ∑ i, v i * Ideal.div (Ideal.exp (t i - M')) (∑ i, Ideal.exp (t i - M')) := by
  obtain ⟨x, rfl⟩ := hM
  obtain ⟨y, rfl⟩ := hM'
  choose r hr using hst
  have hl : Real.log 2 ≠ 0 := (Real.log_pos (by norm_num)).ne'
  have hw : ∀ i, Ideal.exp2 (s i - (x : EReal)) = ((Real.exp (r i - x * Real.log 2) : ℝ) : EReal) := fun i => by
    rw [(hr i).2, exp2_sub, Real.rpow_def_of_pos (by norm_num)]
    congr 2
    field_simp
  have hu : ∀ i, Ideal.exp (t i - (y : EReal)) = ((Real.exp (r i - y) : ℝ) : EReal) := fun i => by rw [(hr i).1, exp_sub]
  simp only [hw, hu, one_mul]
  rw [← coe_sum, ← coe_sum]
  have hp : ∀ z : ℝ, 0 < ∑ i, Real.exp (r i - z) := fun z => Finset.sum_pos (fun i _ => Real.exp_pos _) Finset.univ_nonempty
  rw [div_real _ _ (hp _), mul_comm, mul_sum_real _ _ _ (inv_nonneg.2 (hp _).le)]
  refine Finset.sum_congr rfl fun i _ => ?_
  rw [div_real _ _ (hp _), mul_left_comm, ← EReal.coe_mul, ← EReal.coe_mul]
  refine congrArg (fun z : ℝ => v i * (z : EReal)) ?_
  have hk : ∀ i, Real.exp (r i - y) = Real.exp (x * Real.log 2 - y) * Real.exp (r i - x * Real.log 2) := fun i => by
    rw [← Real.exp_add]; congr 1; ring
  have hk' : ∑ i, Real.exp (r i - y) = Real.exp (x * Real.log 2 - y) * ∑ i, Real.exp (r i - x * Real.log 2) := by
    rw [Finset.mul_sum]; exact Finset.sum_congr rfl fun i _ => hk i
  rw [hk', hk i, mul_inv, inv_mul_eq_div]
  have := (Real.exp_pos (x * Real.log 2 - y)).ne'
  have := (hp (x * Real.log 2)).ne'
  field_simp

end Cert.Online
-- ==== Proof.Head.lean ====
module

public import proofs.«01_k».proof.Proof.FlashPure
public import proofs.«01_k».proof.Proof.Online
public import Idealize.ShloMosaic.Lib.Pointwise

@[expose] public section

set_option maxRecDepth 16384

noncomputable section

/-! One head and one query over the extended reals: the loop's states, read at that query, are the softmax taken block by block. -/

namespace Cert.KernelIdeal.Flash

open Idealize.ShloMosaic Idealize.ShloMosaic.TcCoe
open Cert.KernelIdeal Cert.KernelIdeal.Gen

variable (Q : FVec Ideal S8x128x256 .bf16) (K : FVec Ideal S16384x128 .bf16) (V : FVec Ideal S2x80x16384 .bf16) (h : Fin 8) (j : Fin 256)

/-- The score of key `k`. -/
def sc (k : Fin 16384) : EReal := ∑ d : Fin 128, (show EReal from K (ix2 k d)) * (show EReal from Q (ix3 h d j))

/-- Key `r` of block `n`. -/
def key (n : ℕ) (r : Fin 512) : Fin 16384 := ⟨512 * (nf n).val + r.val, by have := (nf n).isLt; omega⟩

/-- The word of −∞ is the least extended real. -/
theorem ofBits_negInf : Ideal.ofBits .f32 0xFF800000#32 = ⊥ := by
  simp [Ideal.ofBits, Ideal.ieee]

/-- A block's scores, one query. -/
theorem score_at (n : Fin 32) (r : Fin 512) :
    scoreV (kOf K n) (qOf Q h) (ix2 r j) = ∑ d : Fin 128, (show EReal from K (ix2 ⟨512 * n.val + r.val, by omega⟩ d)) * (show EReal from Q (ix3 h d j)) := by
  pointwise [scoreV, kOf, qOf]

/-- The running maximum, one query. -/
theorem max_at (m : FVec Ideal S1x256 .f32) (s : FVec Ideal S512x256 .f32) :
    maxV m s (ix2 0 j) = max (show EReal from m (ix2 0 j)) (Finset.univ.fold max (⊥ : EReal) fun r : Fin 512 => (show EReal from s (ix2 r j))) := by
  pointwise [maxV]
  rw [ofBits_negInf]

/-- The rescaling factor, one query. -/
theorem al_at (m : FVec Ideal S1x256 .f32) (s : FVec Ideal S512x256 .f32) :
    alV m s (ix2 0 j) = Ideal.exp2 ((show EReal from m (ix2 0 j)) - (show EReal from maxV m s (ix2 0 j))) := by
  pointwise [alV]
  rfl

/-- A block's weights, one query. -/
theorem p_at (m : FVec Ideal S1x256 .f32) (s : FVec Ideal S512x256 .f32) (r : Fin 512) :
    pV m s (ix2 r j) = Ideal.exp2 ((show EReal from s (ix2 r j)) - (show EReal from maxV m s (ix2 0 j))) := by
  pointwise [pV]
  rfl

/-- The accumulator after a block, one query. -/
theorem acc_at (a : FVec Ideal S1x256 .f32) (x : FVec Ideal S80x256 .f32) (n : Fin 32) (p : FVec Ideal S512x256 .bf16) (d : Fin 80) :
    accV a x (vOf V h n) p (ix2 d j) = (show EReal from a (ix2 0 j)) * (show EReal from x (ix2 d j))
      + ∑ r : Fin 512, (show EReal from V (ix3 ⟨h.val / 4, by omega⟩ d ⟨512 * n.val + r.val, by omega⟩)) * (show EReal from p (ix2 r j)) := by
  pointwise [accV, vOf]

/-- The division at the end, one query. -/
theorem div_at (x : FVec Ideal S80x256 .f32) (d : Fin 64) :
    divV x (ix2 d j) = Ideal.div (show EReal from x (ix2 ⟨d.val, by omega⟩ j)) (show EReal from x (ix2 64 j)) := by
  pointwise [divV]

/-- The scores waiting after `n` half steps are block `n`'s. -/
theorem s_at (n : ℕ) (r : Fin 512) : (hp Q K V h n).s (ix2 r j) = sc Q K h j (key n r) := by
  cases n with
  | zero => exact score_at Q K h j (nf 0) r
  | succ n => exact score_at Q K h j (nf (n + 1)) r

/-- Where every score of the query is a real, one entry of the final accumulator is the sum over all keys of the values weighed
    relative to the last maximum, a real. -/
theorem accP_at (hs : ∀ k, ∃ r : ℝ, sc Q K h j k = r) :
    ∃ M : EReal, (∃ r : ℝ, M = r) ∧ ∀ d : Fin 80, accP Q K V h (ix2 d j)
      = ∑ k : Fin 16384, (show EReal from V (ix3 ⟨h.val / 4, by omega⟩ d k)) * Ideal.exp2 (sc Q K h j k - M) := by
  have hM : ∀ n, ∃ r : ℝ, (show EReal from (hp Q K V h (n + 1)).m (ix2 0 j)) = r := by
    have hb : ∀ n, ∃ r : ℝ, (Finset.univ.fold max (⊥ : EReal) fun r : Fin 512 => (show EReal from (hp Q K V h n).s (ix2 r j))) = r :=
      fun n => Online.fold_real _ fun r => by rw [s_at]; exact hs _
    intro n
    induction n with
    | zero =>
      obtain ⟨r, hr⟩ := hb 0
      refine ⟨r, (max_at j _ _).trans ?_⟩
      rw [hr]
      exact max_eq_right (by rw [show (hp Q K V h 0).m (ix2 0 j) = (⊥ : EReal) from ofBits_negInf]; exact bot_le)
    | succ n ih =>
      obtain ⟨r, hr⟩ := hb (n + 1)
      obtain ⟨q, hq⟩ := ih
      refine ⟨max q r, (max_at j _ _).trans ?_⟩
      rw [hr, EReal.coe_strictMono.monotone.map_max]
      exact congrArg (max · _) hq
  refine ⟨(hp Q K V h 32).m (ix2 0 j), hM 31, fun d => ?_⟩
  have := Online.online (fun n r => sc Q K h j (key n r)) (fun n r => (show EReal from V (ix3 ⟨h.val / 4, by omega⟩ d (key n r))))
    (fun n => (hp Q K V h n).m (ix2 0 j)) (fun n => (hp Q K V h (n + 1)).x (ix2 d j)) (fun n r => hs _) hM
    (by
      refine (acc_at V h j _ _ _ _ d).trans ?_
      have h0 : ∀ i, (hp Q K V h 0).p i = (0 : EReal) := fun i => by
        show Ideal.ofBits .bf16 0x0000#16 = 0; simp [Ideal.ofBits, Ideal.ieee]
      have h1 : ∀ i, (hp Q K V h 0).x i = (0 : EReal) := fun i => by
        show Ideal.ofBits .f32 0x00000000#32 = 0; simp [Ideal.ofBits, Ideal.ieee]
      simp only [h0, h1, mul_zero, Finset.sum_const_zero, add_zero])
    (fun n => by
      refine (acc_at V h j _ _ _ _ d).trans ?_
      refine congrArg₂ (· + ·) (congrArg (· * _) (al_at j _ _)) (Finset.sum_congr rfl fun r _ => congrArg (_ * ·) ?_)
      refine (p_at j _ _ r).trans ?_
      rw [s_at]
      rfl) 32
  refine this.trans ?_
  rw [Fin.sum_univ_tiles 32 512 rfl, Finset.sum_range]
  refine Finset.sum_congr rfl fun b _ => Finset.sum_congr rfl fun r _ => ?_
  have hk : key b.val r = ⟨b.val * 512 + r.val, by omega⟩ := Fin.ext (by show 512 * min b.val 31 + r.val = b.val * 512 + r.val; omega)
  rw [hk]

end Cert.KernelIdeal.Flash
-- ==== Proof.HostArrays.lean ====
module

public import proofs.«01_k».proof.Proof.FlashPure
public import Idealize.ShloMosaic.Lib.Pointwise
public import Idealize.ShloMosaic.Lib.Claim

@[expose] public section

set_option maxRecDepth 16384

noncomputable section

/-! The arrays the host code prepares for the attention call, at an index. -/

namespace Cert.KernelIdeal.Flash

open Idealize.ShloMosaic Idealize.ShloMosaic.TcCoe
open Cert.KernelIdeal Cert.KernelIdeal.Gen

variable (q : FVec Ideal S1x16384x2x4x64 .f32) (k v : FVec Ideal S1x16384x2x64 .f32)

/-- The queries' scale, one eighth over the logarithm of two. -/
def scale : EReal := ((8⁻¹ * (Real.log 2)⁻¹ : ℝ) : EReal)

/-- The scaled queries. -/
def qMul : FVec Ideal S1x16384x2x4x64 .f32 :=
  mulf q (broadcastInDim S1x16384x2x4x64 ![] bcast_S_S1x16384x2x4x64 (Host.divf (constant S_ .f32 0x3E000000#32) (Host.log (constant S_ .f32 0x40000000#32))))

/-- The scaled queries by token, head and lane. -/
def qHeads : FVec Ideal S16384x8x64 .f32 := shapeCast S16384x8x64 (qMul q) shapeCasts_S1x16384x2x4x64_S16384x8x64

/-- Heads of either group side by side, each in its own half of the lanes, zero in the other half. -/
def qPad (x : FVec Ideal S16384x8x64 .f32) : FVec Ideal S8x128x16384 .bf16 :=
  truncf .bf16 (transpose S8x128x16384 [1, 2, 0] (concatenate S16384x8x128 1
    [⟨S16384x4x128, pad S16384x4x128 ![0, 0, 0] ![0, 0, 64] ![0, 0, 0] (extractStridedSlice S16384x4x64 ![0, 0, 0] x slices_S16384x8x64_S16384x4x64_0_0_0) (sitofp .f32 (constantI S_ 32 0#32)) pads_S16384x4x64_S16384x4x128_000_000_0640 h_S_⟩,
     ⟨S16384x4x128, pad S16384x4x128 ![0, 0, 64] ![0, 0, 0] ![0, 0, 0] (extractStridedSlice S16384x4x64 ![0, 4, 0] x slices_S16384x8x64_S16384x4x64_0_4_0) (sitofp .f32 (constantI S_ 32 0#32)) pads_S16384x4x64_S16384x4x128_000_000_6400 h_S_⟩]
    concatenates_S16384x4x128_S16384x4x128_S16384x8x128_d1) transposes_S16384x8x128_S8x128x16384_1_2_0) bitsLt_bf16_f32

/-- The keys, a row for each token. -/
def kRows : FVec Ideal S16384x128 .bf16 := truncf .bf16 (shapeCast S16384x128 k shapeCasts_S1x16384x2x64_S16384x128) bitsLt_bf16_f32

/-- The values by token, group and lane. -/
def vGroups : FVec Ideal S16384x2x64 .f32 := shapeCast S16384x2x64 v shapeCasts_S1x16384x2x64_S16384x2x64

/-- The values with rows of ones below. -/
def vOnes (x : FVec Ideal S16384x2x64 .f32) : FVec Ideal S2x80x16384 .bf16 :=
  truncf .bf16 (concatenate S2x80x16384 1 [⟨S2x64x16384, transpose S2x64x16384 [1, 2, 0] x transposes_S16384x2x64_S2x64x16384_1_2_0⟩,
    ⟨S2x16x16384, broadcastInDim S2x16x16384 ![] bcast_S_S2x16x16384 (constant S_ .f32 0x3F800000#32)⟩] concatenates_S2x64x16384_S2x16x16384_S2x80x16384_d1) bitsLt_bf16_f32

/-- The scale as the host code computes it. -/
theorem scale_eq : Ideal.div (Ideal.ofBits .f32 0x3E000000#32) (Ideal.log (Ideal.ofBits .f32 0x40000000#32)) = scale := by
  have h2 : Ideal.ofBits .f32 0x40000000#32 = ((2 : ℝ) : EReal) := by
    simp [Ideal.ofBits, Ideal.ieee, -EReal.coe_mul]; norm_num
  have h8 : Ideal.ofBits .f32 0x3E000000#32 = ((8⁻¹ : ℝ) : EReal) := by
    simp [Ideal.ofBits, Ideal.ieee, -EReal.coe_mul]; norm_num
  have hl : Ideal.log ((2 : ℝ) : EReal) = ((Real.log 2 : ℝ) : EReal) := by
    show (if (2 : ℝ) ≤ 0 then ⊥ else ((Real.log 2 : ℝ) : EReal)) = _
    rw [if_neg (by norm_num)]
  have h0 : Real.log 2 ≠ 0 := (Real.log_pos (by norm_num)).ne'
  rw [h2, h8, hl, Ideal.div, if_neg (by exact_mod_cast h0), scale, EReal.coe_mul, EReal.coe_inv, EReal.coe_inv]

/-- One scaled query entry. -/
theorem qMul_at (a : Fin 16384) (c : Fin 2) (e : Fin 4) (d : Fin 64) :
    qMul q (ix5 0 a c e d) = (show EReal from q (ix5 0 a c e d)) * scale := by
  pointwise [qMul]
  rw [scale_eq]

/-- One scaled query entry by head. -/
theorem qHeads_at (a : Fin 16384) (c : Fin 2) (e : Fin 4) (d : Fin 64) (h : Fin 8) (hh : h.val = 4 * c.val + e.val) :
    qHeads q (ix3 a h d) = (show EReal from q (ix5 0 a c e d)) * scale := by
  rw [← qMul_at]
  unfold qHeads
  generalize qMul q = x
  refine shapeCast_apply _ _ _ _ ?_
  rw [rowMajor_val5 _ (16384 * 512) 512 256 64 rfl rfl rfl rfl, rowMajor_val3 _ 512 64 rfl rfl]
  show 0 * _ + a.val * 512 + c.val * 256 + e.val * 64 + d.val = a.val * 512 + h.val * 64 + d.val
  omega

/-- One padded entry of the first group. -/
theorem qPad_at (x : FVec Ideal S16384x8x64 .f32) (h : Fin 8) (d : Fin 128) (a : Fin 16384) :
    qPad x (ix3 h d a) = if hd : d.val / 64 = h.val / 4 then x (ix3 a h ⟨d.val % 64, Nat.mod_lt _ (by decide)⟩) else (0 : EReal) := by
  pointwise [qPad]
  have h0 : FloatOps.sitofp (F := Ideal) .f32 (0#32) = (0 : EReal) := by
    show (((0#32 : BitVec 32).toInt : ℝ) : EReal) = 0
    simp
  rw [h0]
  by_cases hh : h.val < 4
  · rw [dif_pos hh]
    by_cases hd : d.val < 64
    · rw [dif_pos ⟨hh, hd⟩, dif_pos (by omega)]
      exact congrArg (fun d => x (ix3 a h d)) (Fin.ext (by show d.val = d.val % 64; omega))
    · rw [dif_neg (fun t => hd t.2), dif_neg (by omega)]
  · rw [dif_neg hh]
    by_cases hd : d.val < 64
    · rw [dif_neg (fun t => by omega), dif_neg (by omega)]
    · rw [dif_pos ⟨by omega, by omega, by omega⟩, dif_pos (by omega)]
      exact congrArg₂ (fun h d => x (ix3 a h d)) (Fin.ext (by show 4 + (h.val - 4) = h.val; omega)) (Fin.ext (by show d.val - 64 = d.val % 64; omega))

/-- One key entry. -/
theorem kRows_at (a : Fin 16384) (c : Fin 2) (d : Fin 64) (l : Fin 128) (hl : l.val = 64 * c.val + d.val) :
    kRows k (ix2 a l) = k (ix4 0 a c d) := by
  show shapeCast S16384x128 k shapeCasts_S1x16384x2x64_S16384x128 (ix2 a l) = _
  refine shapeCast_apply _ _ _ _ ?_
  rw [rowMajor_val4 _ (16384 * 128) 128 64 rfl rfl rfl, rowMajor_val2 _ 128 rfl]
  show 0 * _ + a.val * 128 + c.val * 64 + d.val = a.val * 128 + l.val
  omega

/-- One value entry by group. -/
theorem vGroups_at (a : Fin 16384) (c : Fin 2) (d : Fin 64) :
    vGroups v (ix3 a c d) = v (ix4 0 a c d) := by
  unfold vGroups
  refine shapeCast_apply _ _ _ _ ?_
  rw [rowMajor_val4 _ (16384 * 128) 128 64 rfl rfl rfl, rowMajor_val3 _ 128 64 rfl rfl]
  show 0 * _ + a.val * 128 + c.val * 64 + d.val = a.val * 128 + c.val * 64 + d.val
  omega

/-- One entry of the values with ones. -/
theorem vOnes_at (x : FVec Ideal S16384x2x64 .f32) (g : Fin 2) (d : Fin 80) (a : Fin 16384) :
    vOnes x (ix3 g d a) = if hd : d.val < 64 then x (ix3 a g ⟨d.val, hd⟩) else (1 : EReal) := by
  pointwise [vOnes]

/-- What the call's first window holds. -/
theorem V_q (m : (ℓ : Loc nD τ sig) → Buf (Elt Ideal) ℓ) (c : Dev nD) : V m c main_v11 = qPad (qHeads (m ((c.tc : Thread nD τ).loc main_arg0))) := by
  entry_read
  rfl

/-- What the call's second window holds. -/
theorem V_k (m : (ℓ : Loc nD τ sig) → Buf (Elt Ideal) ℓ) (c : Dev nD) : V m c main_v13 = kRows (m ((c.tc : Thread nD τ).loc main_arg1)) := by
  entry_read
  rfl

/-- What the call's third window holds. -/
theorem V_v (m : (ℓ : Loc nD τ sig) → Buf (Elt Ideal) ℓ) (c : Dev nD) : V m c main_v18 = vOnes (vGroups (m ((c.tc : Thread nD τ).loc main_arg2))) := by
  entry_read
  rfl

end Cert.KernelIdeal.Flash
-- ==== Proof.RefValue.lean ====
module

public import proofs.«01_k».proof.Proof.Gen.ReferenceIdeal.Run
public import proofs.«01_k».proof.Proof.Online
public import Idealize.ShloMosaic.Lib.Pointwise

@[expose] public section

set_option maxRecDepth 16384

noncomputable section

/-! The reference's result at an index. -/

namespace Cert.ReferenceIdeal.Attn

open Idealize.ShloMosaic Idealize.ShloMosaic.TcCoe Idealize.SL.Sem
open Cert.ReferenceIdeal Cert.ReferenceIdeal.Gen

variable (q : FVec Ideal S1x16384x2x4x64 .f32) (k v : FVec Ideal S1x16384x2x64 .f32)

/-- The scaled scores. -/
def scores : FVec Ideal S1x2x4x16384x16384 .f32 :=
  mulf (transpose S1x2x4x16384x16384 [0, 1, 4, 3, 2] (Host.dotGeneral dot_S1x16384x2x64_S1x16384x2x4x64_S1x2x16384x16384x4_3_4_1_13_02_02 none k q) transposes_S1x2x16384x16384x4_S1x2x4x16384x16384_0_1_4_3_2) (broadcastInDim S1x2x4x16384x16384 ![] bcast_S_S1x2x4x16384x16384 (constant S_ .f32 0x3E000000#32))

/-- The largest scores. -/
def tops (p : FVec Ideal S1x2x4x16384x16384 .f32) : FVec Ideal S1x2x4x16384 .f32 :=
  Host.reduce FloatOps.maximumf p (constant S_ .f32 0xFF800000#32) reducesTo_S1x2x4x16384x16384_S1x2x4x16384_d4 h_S_

/-- The exponentials of `p` relative to `s`. -/
def expOf (p : FVec Ideal S1x2x4x16384x16384 .f32) (s : FVec Ideal S1x2x4x16384 .f32) : FVec Ideal S1x2x4x16384x16384 .f32 :=
  Host.exp (subf p (broadcastInDim S1x2x4x16384x16384 ![0, 1, 2, 3, 4] bcast_S1x2x4x16384x1_S1x2x4x16384x16384_0_1_2_3_4 (broadcastInDim S1x2x4x16384x1 ![0, 1, 2, 3] bcast_S1x2x4x16384_S1x2x4x16384x1_0_1_2_3 (maximumf (broadcastInDim S1x2x4x16384 ![] bcast_S_S1x2x4x16384 (constant S_ .f32 0xFF800000#32)) s))))

/-- The exponentials, relative to a query's largest score. -/
def exps : FVec Ideal S1x2x4x16384x16384 .f32 := expOf (scores q k) (tops (scores q k))

/-- The weights. -/
def wts : FVec Ideal S1x2x4x16384x16384 .f32 :=
  Host.divf (exps q k) (broadcastInDim S1x2x4x16384x16384 ![0, 1, 2, 3, 4] bcast_S1x2x4x16384x1_S1x2x4x16384x16384_0_1_2_3_4 (broadcastInDim S1x2x4x16384x1 ![0, 1, 2, 3] bcast_S1x2x4x16384_S1x2x4x16384x1_0_1_2_3 (Host.reduceAdd (exps q k) (constant S_ .f32 0x00000000#32) reducesTo_S1x2x4x16384x16384_S1x2x4x16384_d4 h_S_)))

/-- The values weighed by `p`. -/
def mixed (p : FVec Ideal S1x2x4x16384x16384 .f32) : FVec Ideal S1x2x64x4x16384 .f32 :=
  Host.dotGeneral dot_S1x16384x2x64_S1x2x4x16384x16384_S1x2x64x4x16384_1_4_3_23_02_01 none v p

/-- The result by query, group, member and lane. -/
def out5 : FVec Ideal S1x16384x2x4x64 .f32 :=
  transpose S1x16384x2x4x64 [0, 4, 1, 3, 2] (mixed v (wts q k)) transposes_S1x2x64x4x16384_S1x16384x2x4x64_0_4_1_3_2

/-- The result. -/
def out : FVec Ideal S512x16384 .bf16 :=
  truncf .bf16 (transpose S512x16384 [1, 0] (shapeCast _ (out5 q k v) shapeCasts_S1x16384x2x4x64_S16384x512) transposes_S16384x512_S512x16384_1_0) bitsLt_bf16_f32

/-- One score: query `a`, key `b`, group `c`, member `e`. -/
theorem scores_at (a b : Fin 16384) (c : Fin 2) (e : Fin 4) :
    scores q k (ix5 0 c e a b) = (∑ d : Fin 64, (show EReal from k (ix4 0 b c d)) * (show EReal from q (ix5 0 a c e d))) * Ideal.ofBits .f32 0x3E000000#32 := by
  pointwise [scores]

/-- A query's largest score. -/
theorem tops_at (p : FVec Ideal S1x2x4x16384x16384 .f32) (a : Fin 16384) (c : Fin 2) (e : Fin 4) :
    tops p (ix4 0 c e a) = Finset.univ.fold max (⊥ : EReal) fun b : Fin 16384 => (show EReal from p (ix5 0 c e a b)) := by
  refine (Host.reduce_eq_fold (FloatOps.maximumf (F := Ideal) (φ := .f32)) _ _ _ _ _).trans ?_
  rw [show constant (F := Ideal) S_ .f32 0xFF800000#32 (Shape.Idx.first h_S_) = (⊥ : EReal) by
    show Ideal.ofBits .f32 0xFF800000#32 = ⊥; simp [Ideal.ofBits, Ideal.ieee]]
  exact Shape.ReducesTo.fold_fiber_r5_a4 _ _ _ _ _

/-- One exponential of a difference. -/
theorem expOf_at (p : FVec Ideal S1x2x4x16384x16384 .f32) (s : FVec Ideal S1x2x4x16384 .f32) (a b : Fin 16384) (c : Fin 2) (e : Fin 4) :
    expOf p s (ix5 0 c e a b) = Ideal.exp ((show EReal from p (ix5 0 c e a b)) - max ⊥ (show EReal from s (ix4 0 c e a))) := by
  pointwise [expOf]
  rw [show Ideal.ofBits .f32 0xFF800000#32 = ⊥ by simp [Ideal.ofBits, Ideal.ieee]]

/-- One exponential. -/
theorem exps_at (a b : Fin 16384) (c : Fin 2) (e : Fin 4) :
    exps q k (ix5 0 c e a b) = Ideal.exp ((show EReal from scores q k (ix5 0 c e a b))
      - max ⊥ (Finset.univ.fold max (⊥ : EReal) fun b : Fin 16384 => (show EReal from scores q k (ix5 0 c e a b)))) := by
  rw [exps, ← tops_at]
  exact expOf_at _ _ _ _ _ _

/-- A query's denominator. -/
theorem den_at (p : FVec Ideal S1x2x4x16384x16384 .f32) (a : Fin 16384) (c : Fin 2) (e : Fin 4) :
    Host.reduceAdd p (constant S_ .f32 0x00000000#32) reducesTo_S1x2x4x16384x16384_S1x2x4x16384_d4 h_S_ (ix4 0 c e a) = ∑ b : Fin 16384, (show EReal from p (ix5 0 c e a b)) := by
  rw [Host.reduceAdd_apply, Ideal.hostReduceAdd_def]
  refine (Ideal.hostReduceAdd_r5_a4 _ _ _ _).trans ?_
  rw [show constant (F := Ideal) S_ .f32 0x00000000#32 (Shape.Idx.first h_S_) = (0 : EReal) by
    show Ideal.ofBits .f32 0x00000000#32 = 0; simp [Ideal.ofBits, Ideal.ieee], zero_add]
  rfl

/-- One weight. -/
theorem wts_at (a b : Fin 16384) (c : Fin 2) (e : Fin 4) :
    wts q k (ix5 0 c e a b) = Ideal.div (show EReal from exps q k (ix5 0 c e a b)) (∑ b : Fin 16384, (show EReal from exps q k (ix5 0 c e a b))) := by
  rw [← den_at]
  unfold wts
  generalize exps q k = p
  generalize hs : Host.reduceAdd p (constant S_ .f32 0x00000000#32) reducesTo_S1x2x4x16384x16384_S1x2x4x16384_d4 h_S_ = s
  pointwise

/-- One mixed value. -/
theorem mixed_at (p : FVec Ideal S1x2x4x16384x16384 .f32) (a : Fin 16384) (c : Fin 2) (e : Fin 4) (d : Fin 64) :
    mixed v p (ix5 0 c d e a) = ∑ b : Fin 16384, (show EReal from v (ix4 0 b c d)) * (show EReal from p (ix5 0 c e a b)) := by
  pointwise [mixed]

/-- One entry of the result by query, group, member and lane. -/
theorem out5_at (a : Fin 16384) (c : Fin 2) (e : Fin 4) (d : Fin 64) :
    out5 q k v (ix5 0 a c e d) = ∑ b : Fin 16384, (show EReal from v (ix4 0 b c d)) *
      Ideal.div (show EReal from exps q k (ix5 0 c e a b)) (∑ b : Fin 16384, (show EReal from exps q k (ix5 0 c e a b))) := by
  refine (show _ = mixed v (wts q k) (ix5 0 c d e a) by pointwise [out5]).trans ?_
  rw [mixed_at]
  exact Finset.sum_congr rfl fun b _ => congrArg (_ * ·) (wts_at q k a b c e)

/-- One entry of the result: row `64 · head + lane`. -/
theorem out_at (c : Fin 2) (e : Fin 4) (d : Fin 64) (a : Fin 16384) (r : Fin 512) (hr : r.val = 256 * c.val + 64 * e.val + d.val) :
    out q k v (ix2 r a) = out5 q k v (ix5 0 a c e d) := by
  show transpose S512x16384 [1, 0] (shapeCast S16384x512 (out5 q k v) shapeCasts_S1x16384x2x4x64_S16384x512) transposes_S16384x512_S512x16384_1_0 (ix2 r a) = _
  generalize out5 q k v = x
  refine (transpose_apply [1, 0] (shapeCast S16384x512 x shapeCasts_S1x16384x2x4x64_S16384x512) _ (ix2 r a) (ix2 a r) ?_).trans ?_
  · intro b; fin_cases b <;> rfl
  · refine shapeCast_apply _ _ _ _ ?_
    rw [rowMajor_val5 _ (16384 * 512) 512 256 64 rfl rfl rfl rfl, rowMajor_val2 _ 512 rfl]
    show 0 * _ + a.val * 512 + c.val * 256 + e.val * 64 + d.val = a.val * 512 + r.val
    omega

/-- The reference's run, with its result named. -/
theorem run_out (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v19) = out (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  Value.run m ρ

end Cert.ReferenceIdeal.Attn
-- ==== Proof.HeadOut.lean ====
module

public import proofs.«01_k».proof.Proof.Head
public import proofs.«01_k».proof.Proof.HostArrays
public import proofs.«01_k».proof.Proof.RefValue

@[expose] public section

set_option maxRecDepth 16384

noncomputable section

/-! One block of the call's result is the reference's result there, for queries and keys that are real. -/

namespace Cert.KernelIdeal.Flash

open Idealize.ShloMosaic Idealize.ShloMosaic.TcCoe
open Cert.KernelIdeal Cert.KernelIdeal.Gen
open Cert.ReferenceIdeal.Attn (scores exps out scores_at exps_at out5_at out_at)

variable (q : FVec Ideal S1x16384x2x4x64 .f32) (k v : FVec Ideal S1x16384x2x64 .f32)
  (Q : FVec Ideal S8x128x256 .bf16) (h : Fin 8) (j : Fin 256) (a : Fin 16384) (g : Fin 2) (e : Fin 4)

/-- The call's score is a sum over the lanes of the head's own group. -/
theorem sc_lanes (hh : h.val = 4 * g.val + e.val) (hQ : ∀ d, Q (ix3 h d j) = qPad (qHeads q) (ix3 h d a)) (b : Fin 16384) :
    sc Q (kRows k) h j b = ∑ d : Fin 64, (show EReal from k (ix4 0 b g d)) * ((show EReal from q (ix5 0 a g e d)) * scale) := by
  unfold sc
  rw [Fin.sum_univ_tiles 2 64 rfl, Finset.sum_eq_single g]
  · refine Finset.sum_congr rfl fun d _ => ?_
    rw [hQ, qPad_at, dif_pos (by show (g.val * 64 + d.val) / 64 = h.val / 4; omega), kRows_at k b g d _ (by show g.val * 64 + d.val = _; omega)]
    refine congrArg (_ * ·) ((congrArg (fun d => qHeads q (ix3 a h d)) (Fin.ext ?_)).trans (qHeads_at q a g e d h hh))
    show (g.val * 64 + d.val) % 64 = d.val
    omega
  · intro g' _ hg
    refine Finset.sum_eq_zero fun d _ => ?_
    have hg' : g'.val ≠ g.val := fun t => hg (Fin.ext t)
    rw [hQ, qPad_at, dif_neg (by show ¬ (g'.val * 64 + d.val) / 64 = h.val / 4; omega)]
    exact mul_zero _
  · exact fun t => absurd (Finset.mem_univ _) t

/-- The call's score is the reference's over the logarithm of two, and both are real. -/
theorem sc_real (hq : ∀ i, ∃ r : ℝ, q i = (r : EReal)) (hk : ∀ i, ∃ r : ℝ, k i = (r : EReal)) (hh : h.val = 4 * g.val + e.val)
    (hQ : ∀ d, Q (ix3 h d j) = qPad (qHeads q) (ix3 h d a)) (b : Fin 16384) :
    ∃ r : ℝ, scores q k (ix5 0 g e a b) = (r : EReal) ∧ sc Q (kRows k) h j b = ((r * (Real.log 2)⁻¹ : ℝ) : EReal) := by
  choose x hx using hq
  choose y hy using hk
  refine ⟨(∑ d : Fin 64, y (ix4 0 b g d) * x (ix5 0 a g e d)) * 8⁻¹, ?_, ?_⟩
  · rw [scores_at, EReal.coe_mul, Online.coe_sum, show Ideal.ofBits .f32 0x3E000000#32 = ((8⁻¹ : ℝ) : EReal) by
      simp [Ideal.ofBits, Ideal.ieee, -EReal.coe_mul]; norm_num]
    refine congrArg (· * _) (Finset.sum_congr rfl fun d _ => ?_)
    rw [EReal.coe_mul, ← hx, ← hy]
  · rw [sc_lanes q k Q h j a g e hh hQ b, Finset.sum_mul, Finset.sum_mul, Online.coe_sum]
    refine Finset.sum_congr rfl fun d _ => ?_
    rw [hx, hy, scale, ← EReal.coe_mul, ← EReal.coe_mul]
    exact congrArg _ (by ring)

/-- One entry of a block of the call's result. -/
theorem outF_eq (hq : ∀ i, ∃ r : ℝ, q i = (r : EReal)) (hk : ∀ i, ∃ r : ℝ, k i = (r : EReal)) (r : Fin 512)
    (hQ : ∀ h d, Q (ix3 h d j) = qPad (qHeads q) (ix3 h d a)) :
    outF Q (kRows k) (vOnes (vGroups v)) (ix2 r j) = out q k v (ix2 r a) := by
  have hr := r.isLt
  let h : Fin 8 := ⟨r.val / 64, by omega⟩
  let d : Fin 64 := ⟨r.val % 64, Nat.mod_lt _ (by decide)⟩
  let g : Fin 2 := ⟨h.val / 4, by omega⟩
  let e : Fin 4 := ⟨h.val % 4, Nat.mod_lt _ (by decide)⟩
  have hh : h.val = 4 * g.val + e.val := by show h.val = 4 * (h.val / 4) + h.val % 4; omega
  have hs := sc_real q k Q h j a g e hq hk hh (hQ h)
  obtain ⟨M, hM, hacc⟩ := accP_at Q (kRows k) (vOnes (vGroups v)) h j fun b => let ⟨r, hr⟩ := hs b; ⟨_, hr.2⟩
  obtain ⟨M', hM'⟩ := Online.fold_real (fun b : Fin 16384 => (show EReal from scores q k (ix5 0 g e a b))) fun b => let ⟨r, hr⟩ := hs b; ⟨r, hr.1⟩
  rw [out_at q k v g e d a r (by show r.val = 256 * (r.val / 64 / 4) + 64 * (r.val / 64 % 4) + r.val % 64; omega), out5_at]
  refine (div_at j (accP Q (kRows k) (vOnes (vGroups v)) h) d).trans ((congrArg₂ Ideal.div (hacc _) (hacc 64)).trans ?_)
  refine Eq.trans (congrArg₂ Ideal.div (Finset.sum_congr rfl fun b _ => congrArg (· * _) ?_) (Finset.sum_congr rfl fun b _ => congrArg (· * _) ?_))
    ((Online.softmax_eq (fun b => sc Q (kRows k) h j b) (fun b => scores q k (ix5 0 g e a b)) (fun b => v (ix4 0 b g d)) M M' hM ⟨M', rfl⟩ hs).trans ?_)
  · refine (vOnes_at _ g _ b).trans ?_
    rw [dif_pos (show d.val < 64 from d.isLt)]
    exact vGroups_at v b g d
  · exact (vOnes_at _ g _ b).trans (dif_neg (by decide))
  · have hx : ∀ b, exps q k (ix5 0 g e a b) = Ideal.exp ((show EReal from scores q k (ix5 0 g e a b)) - M') := fun b => by
      rw [exps_at, max_eq_right bot_le, hM']
    refine Finset.sum_congr rfl fun b _ => congrArg (_ * ·) (congrArg₂ Ideal.div (hx b).symm (Finset.sum_congr rfl fun b _ => (hx b).symm))

end Cert.KernelIdeal.Flash
-- ==== Proof.KernelValue.lean ====
module

public import proofs.«01_k».proof.Proof.FlashRun
public import proofs.«01_k».proof.Proof.HeadOut
public import Idealize.ShloMosaic.Lib.Pipeline.ValueKit

@[expose] public section

set_option maxRecDepth 16384

noncomputable section

/-! The array the call leaves is the reference's result, for queries and keys that are real. -/

namespace Cert.KernelIdeal.Flash

open Idealize.ShloMosaic Idealize.ShloMosaic.TcCoe Idealize.ShloMosaic.Pipeline
open Cert.KernelIdeal Cert.KernelIdeal.Gen

variable (m : (ℓ : Loc nD τ sig) → Buf (Elt Ideal) ℓ) (c : Dev nD)

/-- Which block of each array point `t` takes. -/
theorem idx : ∀ t : Fin cfg0.N, win0_0.index t = ![0, 0, t.val] ∧ win0_1.index t = ![0, 0] ∧ win0_2.index t = ![0, 0, 0] ∧ win0_3.index t = ![0, t.val] :=
  (by decide +kernel : ∀ t : Fin grid0.N, _)

/-- Column `256 t + j` of the arrays. -/
def col (t : Fin cfg0.N) (j : Fin 256) : Fin 16384 :=
  ⟨256 * t.val + j.val, by have : t.val < 64 := t.isLt; omega⟩

/-- Point `t`'s queries are columns `256 t` to `256 t + 255`. -/
theorem iblk_0 (t : Fin cfg0.N) (h : Fin 8) (d : Fin 128) (j : Fin 256) :
    iblk m c 0 t (ix3 h d j) = qPad (qHeads (m ((c.tc : Thread nD τ).loc main_arg0))) (ix3 h d (col t j)) := by
  rw [← V_q]
  unfold col
  blk_ext [iblk, idx t]

/-- Every point takes all the keys. -/
theorem iblk_1 (t : Fin cfg0.N) : iblk m c 1 t = kRows (m ((c.tc : Thread nD τ).loc main_arg1)) := by
  rw [← V_k]
  blk_ext! [iblk, idx t]

/-- Every point takes all the values. -/
theorem iblk_2 (t : Fin cfg0.N) : iblk m c 2 t = vOnes (vGroups (m ((c.tc : Thread nD τ).loc main_arg2))) := by
  rw [← V_v]
  blk_ext! [iblk, idx t]

/-- The result's array when the call is done. -/
theorem result_eq (hq : ∀ i, ∃ r : ℝ, m ((c.tc : Thread nD τ).loc main_arg0) i = (r : EReal)) (hk : ∀ i, ∃ r : ℝ, m ((c.tc : Thread nD τ).loc main_arg1) i = (r : EReal)) :
    (dats m 0 c).arrAt 3 cfg0.N = Cert.ReferenceIdeal.Attn.out (m ((c.tc : Thread nD τ).loc main_arg0)) (m ((c.tc : Thread nD τ).loc main_arg1)) (m ((c.tc : Thread nD τ).loc main_arg2)) := by
  refine (dats m 0 c).arrAt_eq_of_covers 3 _ (by decide +kernel) fun t _ y => ?_
  blk_simp
  rw [after_3, blkOut, iblk_1, iblk_2]
  have hy : y = ix2 (y 0) (y 1) := by funext b; fin_cases b <;> rfl
  generalize hr : y 0 = r at hy
  generalize hj : y 1 = j at hy
  subst hy
  refine (outF_eq _ _ _ (iblk m c 0 t) j (col t j) hq hk r fun h d => iblk_0 m c t h d j).trans ?_
  generalize Cert.ReferenceIdeal.Attn.out _ _ _ = G
  have hc : (col t j).val = 256 * t.val + j.val := rfl
  generalize col t j = a at hc
  blk_ext [idx t]

end Cert.KernelIdeal.Flash
-- ==== Proof.Finite.lean ====
module

public import proofs.«01_k».proof.Defs
public import Idealize.ShloMosaic.Lib.Pointwise

@[expose] public section

set_option maxRecDepth 16384

noncomputable section

/-! What the precondition says: every query and every key is real. -/

namespace Cert.Pre_finite

open Idealize.ShloMosaic

/-- The shape relations of the precondition's operations. -/
theorem facts : Facts where
  bcast_S_S1x16384x2x4x64 := by decide
  bcast_S1x16384x2x64_S1x16384x2x1x64_0_1_2_4 := by decide
  bcast_S_S1x16384x2x1x64 := by decide
  bcast_S1x16384x2x1x64_S1x16384x2x4x64_0_1_2_3_4 := by decide

/-- An extended real whose magnitude is below ⊤ is real. -/
theorem real_of_abs_lt (x : EReal) (h : max x (-x) < ⊤) : ∃ r : ℝ, x = r := by
  induction x with
  | bot => simp at h
  | top => simp at h
  | coe r => exact ⟨r, rfl⟩

variable [Facts] (q : FVec Ideal S1x16384x2x4x64 .f32) (k v : FVec Ideal S1x16384x2x64 .f32)

/-- The predicate at an entry. -/
theorem fn_at (a : Fin 16384) (c : Fin 2) (e : Fin 4) (d : Fin 64) (h : fn q k v = fun _ => 1#1) :
    (∃ r : ℝ, q (ix5 0 a c e d) = (r : EReal)) ∧ ∃ r : ℝ, k (ix4 0 a c d) = (r : EReal) := by
  have h := congrFun h (ix5 0 a c e d)
  revert h
  pointwise [fn]
  rw [show Ideal.ofBits .f32 0x7F800000#32 = ⊤ by simp [Ideal.ofBits, Ideal.ieee]]
  by_cases h1 : FloatOps.absf (F := Ideal) (φ := .f32) (q (ix5 0 a c e d)) < (⊤ : EReal)
  · by_cases h2 : FloatOps.absf (F := Ideal) (φ := .f32) (k (ix4 0 a c d)) < (⊤ : EReal)
    · exact fun _ => ⟨real_of_abs_lt _ h1, real_of_abs_lt _ h2⟩
    · rw [decide_eq_true h1, decide_eq_false h2]
      exact fun t => absurd t (by decide)
  · rw [decide_eq_false h1]
    intro t
    exact absurd (by rw [← t]; show (0#1 &&& _) = 0#1; exact BitVec.zero_and) (by decide : ¬ (1#1 : BitVec 1) = 0#1)

/-- Every query is real. -/
theorem real_q (h : fn q k v = fun _ => 1#1) : ∀ i, ∃ r : ℝ, q i = (r : EReal) := fun i => by
  have hi : i = ix5 0 (i 1) (i 2) (i 3) (i 4) := by
    funext b; fin_cases b
    · exact Subsingleton.elim (α := Fin 1) _ _
    all_goals rfl
  rw [hi]
  exact (fn_at q k v _ _ _ _ h).1

/-- Every key is real. -/
theorem real_k (h : fn q k v = fun _ => 1#1) : ∀ i, ∃ r : ℝ, k i = (r : EReal) := fun i => by
  have hi : i = ix4 0 (i 1) (i 2) (i 3) := by
    funext b; fin_cases b
    · exact Subsingleton.elim (α := Fin 1) _ _
    all_goals rfl
  rw [hi]
  exact (fn_at q k v (i 1) (i 2) 0 (i 3) h).2

end Cert.Pre_finite
-- ==== Proof.Algebraic.lean ====
module

public import proofs.«01_k».proof.Defs
public import proofs.«01_k».proof.Proof.KernelValue
public import proofs.«01_k».proof.Proof.Finite

@[expose] public section

noncomputable section

/-! The attention call and the reference end with equal results, for queries and keys that are finite. -/

namespace Cert.Proof

open Idealize.ShloMosaic Idealize.ShloMosaic.TcCoe Idealize.SL.Sem

/-- From memories that agree on finite queries and keys and on any values, both programs run, end with the reference's result,
    and leave their arguments unchanged. -/
theorem algebraic : Cert.algebraic_KernelIdeal_ReferenceIdeal_pre_finite (hKernelIdeal := Cert.KernelIdeal.Gen.facts)
    (hReferenceIdeal := Cert.ReferenceIdeal.Gen.facts) (hPre_finite := Cert.Pre_finite.facts) := fun m ρ m' ρ' hpre hargs =>
  ⟨fun c => Cert.ReferenceIdeal.Attn.out (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    (θ_run Cert.KernelIdeal.defs _ _).mono (fun _ h c => ⟨(h.1 c).1.trans (Cert.KernelIdeal.Flash.result_eq m c
        (@Cert.Pre_finite.real_q Cert.Pre_finite.facts _ _ _ (hpre c)) (@Cert.Pre_finite.real_k Cert.Pre_finite.facts _ _ _ (hpre c))), (h.1 c).2⟩)
      (Cert.KernelIdeal.Flash.run_main (F := Ideal) m ρ),
    (θ_run Cert.ReferenceIdeal.defs _ _).mono (fun _ h c => ⟨(h c).1.trans (by rw [(hargs c).1, (hargs c).2.1, (hargs c).2.2]), (h c).2⟩)
      (Cert.ReferenceIdeal.Attn.run_out m' ρ')⟩

end Cert.Proof
-- ==== Proof.Rows.lean ====
module

public import Idealize.ShloMosaic.Lib.Pointwise

@[expose] public section

noncomputable section

/-! What one row of the residual stream becomes: scaled to unit mean square, and through the gated perceptron. -/

namespace Cert.Rows

open Idealize.ShloMosaic

/-- A row divided by its root mean square, times the weights `g`, at entry `k`. -/
def nrm (x g : Fin 1024 → EReal) (k : Fin 1024) : EReal :=
  x k * Ideal.rsqrt (Ideal.div (∑ j, x j * x j) (Ideal.ofBits .f32 0x44800000#32) + Ideal.ofBits .f32 0x358637BD#32) * g k

/-- `a` times the logistic function of `a`. -/
def silu (a : EReal) : EReal := a * Ideal.logistic a

/-- One hidden entry of the gated perceptron: the silu of the row's product with a gate column, times its product with an up column. -/
def hidden (h wg wu : Fin 1024 → EReal) : EReal := silu (∑ k, h k * wg k) * ∑ k, h k * wu k

end Cert.Rows
-- ==== Proof.FinalNorm.lean ====
module

public import proofs.«01_k».proof.Proof.Rows
public import proofs.«01_k».proof.Proof.Gen.Kernel3Ideal.Frame
public import proofs.«01_k».proof.Proof.Gen.Reference3Ideal.Run
public import Idealize.ShloMosaic.Lib.Pipeline.ValueKit
public import Idealize.ShloMosaic.Lib.Claim

@[expose] public section

set_option maxRecDepth 16384

noncomputable section

/-! The final norm: the call's array is the reference's. -/

namespace Cert.Reference3Ideal.FinalNorm

open Idealize.ShloMosaic Idealize.ShloMosaic.TcCoe
open Cert.Reference3Ideal Cert.Reference3Ideal.Gen

/-- The reference's normed rows, as it composes them. -/
def normed (x : FVec Ideal S1x16384x1024 .f32) (g : FVec Ideal S1024 .f32) : FVec Ideal S1x16384x1024 .f32 :=
  mulf (mulf x (broadcastInDim S1x16384x1024 ![0, 1, 2] bcast_S1x16384x1_S1x16384x1024_0_1_2 (Host.rsqrt (addf (Host.divf (broadcastInDim S1x16384x1 ![0, 1] bcast_S1x16384_S1x16384x1_0_1 (Host.reduceAdd (mulf x x) (constant S_ .f32 0x00000000#32) reducesTo_S1x16384x1024_S1x16384_d2 h_S_)) (broadcastInDim S1x16384x1 ![] bcast_S_S1x16384x1 (constant S_ .f32 0x44800000#32))) (broadcastInDim S1x16384x1 ![] bcast_S_S1x16384x1 (constant S_ .f32 0x358637BD#32))))))
    (broadcastInDim S1x16384x1024 ![0, 1, 2] bcast_S1x1x1024_S1x16384x1024_0_1_2 (broadcastInDim S1x1x1024 ![2] bcast_S1024_S1x1x1024_2 g))

/-- The reference's result. -/
def out (x : FVec Ideal S1x16384x1024 .f32) (g : FVec Ideal S1024 .f32) : FVec Ideal S16384x1024 .f32 :=
  shapeCast _ (normed x g) shapeCasts_S1x16384x1024_S16384x1024

/-- An entry of the normed rows. -/
theorem normed_at (x : FVec Ideal S1x16384x1024 .f32) (g : FVec Ideal S1024 .f32) (n : Fin 16384) (k : Fin 1024) :
    normed x g (ix3 0 n k) = Rows.nrm (fun j => x (ix3 0 n j)) (fun j => g (ix1 j)) k := by
  pointwise [normed, Rows.nrm]

/-- An entry of the reference's result. -/
theorem out_at (x : FVec Ideal S1x16384x1024 .f32) (g : FVec Ideal S1024 .f32) (n : Fin 16384) (k : Fin 1024) :
    out x g (ix2 n k) = Rows.nrm (fun j => x (ix3 0 n j)) (fun j => g (ix1 j)) k := by
  rw [← normed_at, out]
  pointwise

end Cert.Reference3Ideal.FinalNorm

namespace Cert.Kernel3Ideal.FinalNorm

open Idealize.ShloMosaic Idealize.ShloMosaic.TcCoe Idealize.ShloMosaic.Pipeline
open Cert.Kernel3Ideal Cert.Kernel3Ideal.Gen

/-- An entry of what the body stores. -/
theorem pay_at (x : FVec Ideal S512x1024 .f32) (g : FVec Ideal S1x1024 .f32) (r : Fin 512) (k : Fin 1024) :
    k0_pay1 (F := Ideal) x g (ix2 r k) = Rows.nrm (fun j => x (ix2 r j)) (fun j => g (ix2 0 j)) k := by
  pointwise [k0_pay1, Rows.nrm]

/-- A row of the flattened tokens. -/
theorem rows_at (x : FVec Ideal S1x16384x1024 .f32) (n : Fin 16384) (k : Fin 1024) :
    shapeCast S16384x1024 x shapeCasts_S1x16384x1024_S16384x1024 (ix2 n k) = x (ix3 0 n k) := by
  pointwise

/-- A weight of the one row of weights. -/
theorem weight_at (g : FVec Ideal S1024 .f32) (k : Fin 1024) :
    broadcastInDim S1x1024 ![1] bcast_S1024_S1x1024_1 g (ix2 0 k) = g (ix1 k) := by
  pointwise

variable (m : (ℓ : Loc nD τ sig) → Buf (Elt Ideal) ℓ) (c : Dev nD)

/-- Which block of each array point `t` takes. -/
theorem idx : ∀ t : Fin cfg0.N, win0_0.index t = ![t.val, 0] ∧ win0_1.index t = ![0, 0] ∧ win0_2.index t = ![t.val, 0] :=
  (by decide +kernel : ∀ t : Fin grid0.N, _)

/-- Row `512 t + r` of the arrays. -/
def row (t : Fin cfg0.N) (r : Fin 512) : Fin 16384 :=
  ⟨512 * t.val + r.val, by have : t.val < 32 := t.isLt; omega⟩

/-- The rows the call takes. -/
theorem V_x : V m c main_v0 = shapeCast S16384x1024 (m ((c.tc : Thread nD τ).loc main_arg0)) shapeCasts_S1x16384x1024_S16384x1024 := by
  entry_read
  rfl

/-- The weights the call takes. -/
theorem V_g : V m c main_v1 = broadcastInDim S1x1024 ![1] bcast_S1024_S1x1024_1 (m ((c.tc : Thread nD τ).loc main_arg1)) := by
  entry_read
  rfl

/-- Point `t` takes rows `512 t` to `512 t + 511`. -/
theorem iblk_0 (t : Fin cfg0.N) (r : Fin 512) (k : Fin 1024) :
    iblk m c 0 t (ix2 r k) = m ((c.tc : Thread nD τ).loc main_arg0) (ix3 0 (row t r) k) := by
  refine Eq.trans ?_ (rows_at _ _ _)
  rw [← V_x]
  unfold row
  blk_ext [iblk, idx t]

/-- Every point takes all the weights. -/
theorem iblk_1 (t : Fin cfg0.N) (k : Fin 1024) : iblk m c 1 t (ix2 0 k) = m ((c.tc : Thread nD τ).loc main_arg1) (ix1 k) := by
  refine Eq.trans ?_ (weight_at _ _)
  rw [← V_g]
  blk_ext [iblk, idx t]

/-- The result's array when the call is done. -/
theorem result_eq : (dats m 0 c).arrAt 2 cfg0.N
    = Cert.Reference3Ideal.FinalNorm.out (m ((c.tc : Thread nD τ).loc main_arg0)) (m ((c.tc : Thread nD τ).loc main_arg1)) := by
  refine (dats m 0 c).arrAt_eq_of_covers 2 _ (by decide +kernel) fun t _ y => ?_
  blk_simp
  rw [after0_2]; frame_out
  have hy : y = ix2 (y 0) (y 1) := by funext b; fin_cases b <;> rfl
  generalize hr : y 0 = r at hy
  generalize hj : y 1 = j at hy
  subst hy
  refine (pay_at _ _ r j).trans ?_
  refine (congrArg₂ (Rows.nrm · · j) (funext (iblk_0 m c t r)) (funext (iblk_1 m c t))).trans ?_
  refine (Cert.Reference3Ideal.FinalNorm.out_at (m ((c.tc : Thread nD τ).loc main_arg0)) (m ((c.tc : Thread nD τ).loc main_arg1)) (row t r) j).symm.trans ?_
  generalize Cert.Reference3Ideal.FinalNorm.out _ _ = G
  have hc : (row t r).val = 512 * t.val + r.val := rfl
  generalize row t r = a at hc
  blk_ext [idx t]

end Cert.Kernel3Ideal.FinalNorm
-- ==== Proof.Ffn.lean ====
module

public import proofs.«01_k».proof.Proof.FinalNorm
public import proofs.«01_k».proof.Proof.Gen.Kernel2Ideal.Frame
public import proofs.«01_k».proof.Proof.Gen.Reference2Ideal.Run

@[expose] public section

set_option maxRecDepth 16384

noncomputable section

/-! The gated perceptron: the call's array, summed over the hidden entries in two halves, is the reference's. -/

namespace Cert.Reference2Ideal.Ffn

open Idealize.ShloMosaic Idealize.ShloMosaic.TcCoe
open Cert.Reference2Ideal Cert.Reference2Ideal.Gen
open Cert.Reference3Ideal.FinalNorm (normed normed_at)

/-- The rows' products with the gate columns, or with the up columns. -/
def prod (h : FVec Ideal S1x16384x1024 .f32) (w : FVec Ideal S1024x2816 .f32) : FVec Ideal S1x16384x2816 .f32 :=
  Host.dotGeneral dot_S1x16384x1024_S1024x2816_S1x16384x2816_2_0_01_1_n_n none h w

/-- The reference's silu of every entry. -/
def act (a : FVec Ideal S1x16384x2816 .f32) : FVec Ideal S1x16384x2816 .f32 :=
  mulf a (Host.divf (broadcastInDim S1x16384x2816 ![] bcast_S_S1x16384x2816 (constant S_ .f32 0x3F800000#32)) (addf (broadcastInDim S1x16384x2816 ![] bcast_S_S1x16384x2816 (constant S_ .f32 0x3F800000#32)) (Host.exp (Host.negf a))))

/-- The hidden entries' products with the down columns. -/
def down (a : FVec Ideal S1x16384x2816 .f32) (w : FVec Ideal S2816x1024 .f32) : FVec Ideal S1x16384x1024 .f32 :=
  Host.dotGeneral dot_S1x16384x2816_S2816x1024_S1x16384x1024_2_0_01_1_n_n none a w

/-- The reference's result. -/
def out (x : FVec Ideal S1x16384x1024 .f32) (g : FVec Ideal S1024 .f32) (wg wu : FVec Ideal S1024x2816 .f32) (wd : FVec Ideal S2816x1024 .f32) : FVec Ideal S16384x1024 .f32 :=
  shapeCast S16384x1024 (addf x (down (mulf (act (prod (normed x g) wg)) (prod (normed x g) wu)) wd)) shapeCasts_S1x16384x1024_S16384x1024

/-- An entry of the products is a sum over the row. -/
theorem prod_at (h : FVec Ideal S1x16384x1024 .f32) (w : FVec Ideal S1024x2816 .f32) (n : Fin 16384) (f : Fin 2816) :
    prod h w (ix3 0 n f) = ∑ k : Fin 1024, h (ix3 0 n k) * w (ix2 k f) := by
  pointwise [prod]

/-- An entry of the silu. -/
theorem act_at (a : FVec Ideal S1x16384x2816 .f32) (n : Fin 16384) (f : Fin 2816) : act a (ix3 0 n f) = Rows.silu (a (ix3 0 n f)) := by
  pointwise [act, Rows.silu, Ideal.logistic]

/-- An entry of the down products is a sum over the hidden entries. -/
theorem down_at (a : FVec Ideal S1x16384x2816 .f32) (w : FVec Ideal S2816x1024 .f32) (n : Fin 16384) (d : Fin 1024) :
    down a w (ix3 0 n d) = ∑ f : Fin 2816, a (ix3 0 n f) * w (ix2 f d) := by
  pointwise [down]

/-- An entry of the reference's result: the row's entry and a sum over the hidden entries. -/
theorem out_at (x : FVec Ideal S1x16384x1024 .f32) (g : FVec Ideal S1024 .f32) (wg wu : FVec Ideal S1024x2816 .f32) (wd : FVec Ideal S2816x1024 .f32) (n : Fin 16384) (d : Fin 1024) :
    out x g wg wu wd (ix2 n d) = x (ix3 0 n d) + ∑ f : Fin 2816, Rows.hidden (Rows.nrm (fun j => x (ix3 0 n j)) fun j => g (ix1 j)) (fun k => wg (ix2 k f)) (fun k => wu (ix2 k f)) * wd (ix2 f d) := by
  refine (Cert.Kernel3Ideal.FinalNorm.rows_at _ n d).trans ?_
  rw [addf_apply, down_at]
  simp only [mulf_apply, act_at, prod_at, normed_at]
  rfl

/-- The reference ends with its result and leaves its arguments unchanged. -/
theorem run_out (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v19) = out (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  Value.run m ρ

end Cert.Reference2Ideal.Ffn

namespace Cert.Kernel2Ideal.Ffn

open Idealize.ShloMosaic Idealize.ShloMosaic.TcCoe Idealize.ShloMosaic.Pipeline
open Cert.Kernel2Ideal Cert.Kernel2Ideal.Gen

/-- The normed rows of a block. -/
theorem pay3_at (x : FVec Ideal S512x1024 .f32) (g : FVec Ideal S1x1024 .f32) (r : Fin 512) (k : Fin 1024) :
    k0_pay3 (F := Ideal) x g (ix2 r k) = Rows.nrm (fun j => x (ix2 r j)) (fun j => g (ix2 0 j)) k := by
  pointwise [k0_pay3, k0_pay2, Rows.nrm]

/-- The rows with the first half of the hidden entries added. -/
theorem pay4_at (x : FVec Ideal S512x1024 .f32) (g : FVec Ideal S1x1024 .f32) (wg wu : FVec Ideal S1024x1408 .bf16) (wd : FVec Ideal S1408x1024 .bf16) (r : Fin 512) (d : Fin 1024) :
    k0_pay4 (F := Ideal) x g wg wu wd (ix2 r d) = x (ix2 r d) + ∑ f : Fin 1408, Rows.hidden (fun k => k0_pay3 (F := Ideal) x g (ix2 r k)) (fun k => wg (ix2 k f)) (fun k => wu (ix2 k f)) * wd (ix2 f d) := by
  pointwise [k0_pay4, k0_pay2, Rows.hidden, Rows.silu]

/-- The second half's gate entries. -/
theorem pay5_at (x : FVec Ideal S512x1024 .f32) (g : FVec Ideal S1x1024 .f32) (wg : FVec Ideal S1024x1408 .bf16) (r : Fin 512) (f : Fin 1408) :
    k0_pay5 (F := Ideal) x g wg (ix2 r f) = Rows.silu (∑ k : Fin 1024, k0_pay3 (F := Ideal) x g (ix2 r k) * wg (ix2 k f)) := by
  pointwise [k0_pay5, Rows.silu]

/-- The second half added to the first. -/
theorem pay1_at (h : FVec Ideal S512x1024 .bf16) (a : FVec Ideal S512x1024 .f32) (s : FVec Ideal S512x1408 .f32) (wu : FVec Ideal S1024x1408 .bf16) (wd : FVec Ideal S1408x1024 .bf16) (r : Fin 512) (d : Fin 1024) :
    k0_pay1 (F := Ideal) h a s (k0_pay6 wu) wd (ix2 r d) = a (ix2 r d) + ∑ f : Fin 1408, s (ix2 r f) * (∑ k : Fin 1024, h (ix2 r k) * wu (ix2 k f)) * wd (ix2 f d) := by
  pointwise [k0_pay1, k0_pay6]

/-- Hidden entry `f` of half `j`. -/
def half (j : Fin 2) (f : Fin 1408) : Fin 2816 := ⟨j.val * 1408 + f.val, by omega⟩

/-- The first half of a matrix's columns. -/
theorem cols_0 (w : FVec Ideal S1024x2816 .bf16) (k : Fin 1024) (f : Fin 1408) : View.ld (Val := Elt Ideal) (e' := .bf16) w r0_2 (ix2 k f) = w (ix2 k (half 0 f)) := by
  unfold half
  pointwise <;> simp <;> rfl

/-- The second half of a matrix's columns. -/
theorem cols_1 (w : FVec Ideal S1024x2816 .bf16) (k : Fin 1024) (f : Fin 1408) : View.ld (Val := Elt Ideal) (e' := .bf16) w r0_4 (ix2 k f) = w (ix2 k (half 1 f)) := by
  unfold half
  pointwise <;> simp <;> rfl

/-- The first half of a matrix's rows. -/
theorem rows_0 (w : FVec Ideal S2816x1024 .bf16) (f : Fin 1408) (d : Fin 1024) : View.ld (Val := Elt Ideal) (e' := .bf16) w r0_3 (ix2 f d) = w (ix2 (half 0 f) d) := by
  unfold half
  pointwise <;> simp <;> rfl

/-- The second half of a matrix's rows. -/
theorem rows_1 (w : FVec Ideal S2816x1024 .bf16) (f : Fin 1408) (d : Fin 1024) : View.ld (Val := Elt Ideal) (e' := .bf16) w r0_5 (ix2 f d) = w (ix2 (half 1 f) d) := by
  unfold half
  pointwise <;> simp <;> rfl

/-- An entry of what the body stores, of its five blocks. -/
theorem out_at (x : FVec Ideal S512x1024 .f32) (g : FVec Ideal S1x1024 .f32) (wg wu : FVec Ideal S1024x2816 .bf16) (wd : FVec Ideal S2816x1024 .bf16) (r : Fin 512) (d : Fin 1024) :
    out0_5 (F := Ideal) x g wg wu wd (ix2 r d) = x (ix2 r d) + ∑ f : Fin 2816, Rows.hidden (Rows.nrm (fun j => x (ix2 r j)) fun j => g (ix2 0 j)) (fun k => wg (ix2 k f)) (fun k => wu (ix2 k f)) * wd (ix2 f d) := by
  rw [Fin.sum_univ_tiles 2 1408 rfl, Fin.sum_univ_two, ← add_assoc]
  unfold out0_5
  frame_out
  refine (pay1_at _ _ _ _ _ r d).trans ?_
  simp only [pay4_at, pay5_at, pay3_at]
  exact congrArg₂ (· + ·)
    (congrArg (x (ix2 r d) + ·) (Finset.sum_congr rfl fun f _ =>
      congrArg₂ (· * ·) (congrArg₂ (Rows.hidden _) (funext fun k => cols_0 wg k f) (funext fun k => cols_0 wu k f)) (rows_0 wd f d)))
    (Finset.sum_congr rfl fun f _ =>
      congrArg₂ (· * ·) (congrArg₂ (Rows.hidden _) (funext fun k => cols_1 wg k f) (funext fun k => cols_1 wu k f)) (rows_1 wd f d))

variable (m : (ℓ : Loc nD τ sig) → Buf (Elt Ideal) ℓ) (c : Dev nD)

/-- Which block of each array point `t` takes. -/
theorem idx : ∀ t : Fin cfg0.N, win0_0.index t = ![t.val, 0] ∧ win0_1.index t = ![0, 0] ∧ win0_2.index t = ![0, 0] ∧ win0_3.index t = ![0, 0] ∧ win0_4.index t = ![0, 0] ∧ win0_5.index t = ![t.val, 0] :=
  (by decide +kernel : ∀ t : Fin grid0.N, _)

/-- Row `512 t + r` of the arrays. -/
def row (t : Fin cfg0.N) (r : Fin 512) : Fin 16384 :=
  ⟨512 * t.val + r.val, by have : t.val < 32 := t.isLt; omega⟩

/-- The rows the call takes. -/
theorem V_x : V m c main_v0 = shapeCast S16384x1024 (m ((c.tc : Thread nD τ).loc main_arg0)) shapeCasts_S1x16384x1024_S16384x1024 := by
  entry_read
  rfl

/-- The weights the call takes. -/
theorem V_g : V m c main_v1 = broadcastInDim S1x1024 ![1] bcast_S1024_S1x1024_1 (m ((c.tc : Thread nD τ).loc main_arg1)) := by
  entry_read
  rfl

/-- The gate matrix the call takes is the argument, its cast dropped. -/
theorem V_wg : V m c main_v2 = m ((c.tc : Thread nD τ).loc main_arg2) := by
  entry_read
  rfl

/-- The up matrix the call takes is the argument, its cast dropped. -/
theorem V_wu : V m c main_v3 = m ((c.tc : Thread nD τ).loc main_arg3) := by
  entry_read
  rfl

/-- The down matrix the call takes is the argument, its cast dropped. -/
theorem V_wd : V m c main_v4 = m ((c.tc : Thread nD τ).loc main_arg4) := by
  entry_read
  rfl

/-- Point `t` takes rows `512 t` to `512 t + 511`. -/
theorem iblk_0 (t : Fin cfg0.N) (r : Fin 512) (k : Fin 1024) :
    iblk m c 0 t (ix2 r k) = m ((c.tc : Thread nD τ).loc main_arg0) (ix3 0 (row t r) k) := by
  refine Eq.trans ?_ (Cert.Kernel3Ideal.FinalNorm.rows_at _ _ _)
  rw [← V_x]
  unfold row
  blk_ext [iblk, idx t]

/-- Every point takes all the weights. -/
theorem iblk_1 (t : Fin cfg0.N) (k : Fin 1024) : iblk m c 1 t (ix2 0 k) = m ((c.tc : Thread nD τ).loc main_arg1) (ix1 k) := by
  refine Eq.trans ?_ (Cert.Kernel3Ideal.FinalNorm.weight_at _ _)
  rw [← V_g]
  blk_ext [iblk, idx t]

/-- Every point takes the whole gate matrix. -/
theorem iblk_2 (t : Fin cfg0.N) : iblk m c 2 t = m ((c.tc : Thread nD τ).loc main_arg2) := by
  rw [← V_wg m c]
  blk_ext! [iblk, idx t]

/-- Every point takes the whole up matrix. -/
theorem iblk_3 (t : Fin cfg0.N) : iblk m c 3 t = m ((c.tc : Thread nD τ).loc main_arg3) := by
  rw [← V_wu m c]
  blk_ext! [iblk, idx t]

/-- Every point takes the whole down matrix. -/
theorem iblk_4 (t : Fin cfg0.N) : iblk m c 4 t = m ((c.tc : Thread nD τ).loc main_arg4) := by
  rw [← V_wd m c]
  blk_ext! [iblk, idx t]

/-- The reference's result, of the call's own arguments. -/
abbrev ref : FVec Ideal S16384x1024 .f32 :=
  Cert.Reference2Ideal.Ffn.out (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))

/-- What a point's body stores is the reference's rows. -/
theorem body_at (t : Fin cfg0.N) (r : Fin 512) (d : Fin 1024) :
    out0_5 (iblk m c 0 t) (iblk m c 1 t) (m ((c.tc : Thread nD τ).loc main_arg2)) (m ((c.tc : Thread nD τ).loc main_arg3)) (m ((c.tc : Thread nD τ).loc main_arg4)) (ix2 r d) = ref m c (ix2 (row t r) d) := by
  refine (out_at _ _ _ _ _ r d).trans ?_
  refine Eq.trans ?_ (Cert.Reference2Ideal.Ffn.out_at _ _ _ _ _ (row t r) d).symm
  rw [show (fun j => iblk m c 0 t (ix2 r j)) = _ from funext (iblk_0 m c t r), show (fun j => iblk m c 1 t (ix2 0 j)) = _ from funext (iblk_1 m c t)]
  exact congrArg (· + _) (iblk_0 m c t r d)

/-- The result's array when the call is done. -/
theorem result_eq : (dats m 0 c).arrAt 5 cfg0.N = ref m c := by
  refine (dats m 0 c).arrAt_eq_of_covers 5 _ (by decide +kernel) fun t _ y => ?_
  blk_simp
  rw [after0_5, iblk_2, iblk_3, iblk_4]
  have hy : y = ix2 (y 0) (y 1) := by funext b; fin_cases b <;> rfl
  generalize hr : y 0 = r at hy
  generalize hj : y 1 = j at hy
  subst hy
  refine (body_at m c t r j).trans ?_
  generalize ref m c = G
  have hc : (row t r).val = 512 * t.val + r.val := rfl
  generalize row t r = a at hc
  blk_ext [idx t]

end Cert.Kernel2Ideal.Ffn
-- ==== Proof.InProj.lean ====
module

public import proofs.«01_k».proof.Proof.FinalNorm
public import proofs.«01_k».proof.Proof.Gen.Kernel4Ideal.Frame
public import proofs.«01_k».proof.Proof.Gen.Reference4Ideal.Run

@[expose] public section

set_option maxRecDepth 16384

noncomputable section

/-! The input projection: the call's two arrays, its columns put in the call's order, are the reference's. -/

namespace Cert.Rows

open Idealize.ShloMosaic

/-- Of 6944 entries, the one that stands in column `j` of the call's order; zero past the last. -/
def pick (f : Fin 6944 → EReal) (j : Fin 4096) : EReal :=
  if _ : j.val < 512 then f ⟨j.val, by omega⟩ else
  if _ : j.val - 512 < 512 then f ⟨2816 + (j.val - 512), by omega⟩ else
  if _ : j.val - 512 - 512 < 512 then f ⟨3328 + (j.val - 512 - 512), by omega⟩ else
  if _ : j.val - 512 - 512 - 512 < 1536 then f ⟨768 + (j.val - 512 - 512 - 512), by omega⟩ else
  if _ : j.val - 512 - 512 - 512 - 1536 < 256 then f ⟨2304 + (j.val - 512 - 512 - 512 - 1536), by omega⟩ else
  if _ : j.val - 512 - 512 - 512 - 1536 - 256 < 256 then f ⟨2560 + (j.val - 512 - 512 - 512 - 1536 - 256), by omega⟩ else
  if _ : j.val - 512 - 512 - 512 - 1536 - 256 - 256 < 128 then f ⟨512 + (j.val - 512 - 512 - 512 - 1536 - 256 - 256), by omega⟩ else
  if _ : j.val - 512 - 512 - 512 - 1536 - 256 - 256 - 128 < 128 then f ⟨640 + (j.val - 512 - 512 - 512 - 1536 - 256 - 256 - 128), by omega⟩ else
  if _ : j.val - 512 - 512 - 512 - 1536 - 256 - 256 - 128 - 128 < 32 then f ⟨3840 + (j.val - 512 - 512 - 512 - 1536 - 256 - 256 - 128 - 128), by omega⟩ else
  0

/-- Column `j` of the call's gates. -/
def gateCol (j : Fin 3072) : Fin 6944 := ⟨3872 + j.val, by omega⟩

/-- Products with values chosen by a condition, added up, are the chosen sums. -/
theorem sum_mul_dite {c : Prop} [Decidable c] (h : Fin 1024 → EReal) (a : c → Fin 1024 → EReal) (b : ¬c → Fin 1024 → EReal) :
    ∑ k, h k * (if q : c then a q k else b q k) = if q : c then ∑ k, h k * a q k else ∑ k, h k * b q k := by
  split <;> rfl

/-- The products of a row with the columns put in order are the products put in order. -/
theorem pick_sum (h : Fin 1024 → EReal) (w : Fin 1024 → Fin 6944 → EReal) (j : Fin 4096) :
    ∑ k, h k * pick (w k) j = pick (fun i => ∑ k, h k * w k i) j := by
  unfold pick
  refine (sum_mul_dite h _ _).trans (dite_congr rfl (fun _ => rfl) fun _ => ?_)
  refine (sum_mul_dite h _ _).trans (dite_congr rfl (fun _ => rfl) fun _ => ?_)
  refine (sum_mul_dite h _ _).trans (dite_congr rfl (fun _ => rfl) fun _ => ?_)
  refine (sum_mul_dite h _ _).trans (dite_congr rfl (fun _ => rfl) fun _ => ?_)
  refine (sum_mul_dite h _ _).trans (dite_congr rfl (fun _ => rfl) fun _ => ?_)
  refine (sum_mul_dite h _ _).trans (dite_congr rfl (fun _ => rfl) fun _ => ?_)
  refine (sum_mul_dite h _ _).trans (dite_congr rfl (fun _ => rfl) fun _ => ?_)
  refine (sum_mul_dite h _ _).trans (dite_congr rfl (fun _ => rfl) fun _ => ?_)
  refine (sum_mul_dite h _ _).trans (dite_congr rfl (fun _ => rfl) fun _ => ?_)
  exact Finset.sum_eq_zero fun k _ => mul_zero _

end Cert.Rows

namespace Cert.Reference4Ideal.InProj

open Idealize.ShloMosaic Idealize.ShloMosaic.TcCoe
open Cert.Reference4Ideal Cert.Reference4Ideal.Gen
open Cert.Reference3Ideal.FinalNorm (normed normed_at)

/-- The rows' products with every column. -/
def prod (h : FVec Ideal S1x16384x1024 .f32) (w : FVec Ideal S1024x6944 .f32) : FVec Ideal S1x16384x6944 .f32 :=
  Host.dotGeneral dot_S1x16384x1024_S1024x6944_S1x16384x6944_2_0_01_1_n_n none h w

/-- The mixers' columns in the call's order. -/
def ordered (z : FVec Ideal S1x16384x6944 .f32) : FVec Ideal S1x16384x4096 .f32 :=
  concatenate S1x16384x4096 2 [⟨S1x16384x512, extractStridedSlice S1x16384x512 ![0, 0, 0] z slices_S1x16384x6944_S1x16384x512_0_0_0⟩,
    ⟨S1x16384x512, extractStridedSlice S1x16384x512 ![0, 0, 2816] z slices_S1x16384x6944_S1x16384x512_0_0_2816⟩,
    ⟨S1x16384x512, extractStridedSlice S1x16384x512 ![0, 0, 3328] z slices_S1x16384x6944_S1x16384x512_0_0_3328⟩,
    ⟨S1x16384x1536, extractStridedSlice S1x16384x1536 ![0, 0, 768] z slices_S1x16384x6944_S1x16384x1536_0_0_768⟩,
    ⟨S1x16384x256, extractStridedSlice S1x16384x256 ![0, 0, 2304] z slices_S1x16384x6944_S1x16384x256_0_0_2304⟩,
    ⟨S1x16384x256, extractStridedSlice S1x16384x256 ![0, 0, 2560] z slices_S1x16384x6944_S1x16384x256_0_0_2560⟩,
    ⟨S1x16384x128, extractStridedSlice S1x16384x128 ![0, 0, 512] z slices_S1x16384x6944_S1x16384x128_0_0_512⟩,
    ⟨S1x16384x128, extractStridedSlice S1x16384x128 ![0, 0, 640] z slices_S1x16384x6944_S1x16384x128_0_0_640⟩,
    ⟨S1x16384x32, extractStridedSlice S1x16384x32 ![0, 0, 3840] z slices_S1x16384x6944_S1x16384x32_0_0_3840⟩,
    ⟨S1x16384x224, broadcastInDim S1x16384x224 ![] bcast_S_S1x16384x224 (constant S_ .f32 0x00000000#32)⟩] concatenates_S1x16384x512_S1x16384x512_S1x16384x512_S1x16384x1536_S1x16384x256_S1x16384x256_S1x16384x128_S1x16384x128_S1x16384x32_S1x16384x224_S1x16384x4096_d2

/-- The reference's first result. -/
def out (x : FVec Ideal S1x16384x1024 .f32) (g : FVec Ideal S1024 .f32) (w : FVec Ideal S1024x6944 .f32) : FVec Ideal S16384x4096 .f32 :=
  shapeCast S16384x4096 (ordered (prod (normed x g) w)) shapeCasts_S1x16384x4096_S16384x4096

/-- The reference's second result, the gates. -/
def gates (x : FVec Ideal S1x16384x1024 .f32) (g : FVec Ideal S1024 .f32) (w : FVec Ideal S1024x6944 .f32) : FVec Ideal S16384x3072 .bf16 :=
  truncf .bf16 (shapeCast S16384x3072 (extractStridedSlice S1x16384x3072 ![0, 0, 3872] (prod (normed x g) w) slices_S1x16384x6944_S1x16384x3072_0_0_3872) shapeCasts_S1x16384x3072_S16384x3072) bitsLt_bf16_f32

/-- An entry of the products is a sum over the row. -/
theorem prod_at (h : FVec Ideal S1x16384x1024 .f32) (w : FVec Ideal S1024x6944 .f32) (n : Fin 16384) (i : Fin 6944) :
    prod h w (ix3 0 n i) = ∑ k : Fin 1024, h (ix3 0 n k) * w (ix2 k i) := by
  pointwise [prod]

/-- An entry of the ordered columns. -/
theorem ordered_at (z : FVec Ideal S1x16384x6944 .f32) (n : Fin 16384) (j : Fin 4096) :
    ordered z (ix3 0 n j) = Rows.pick (fun i => z (ix3 0 n i)) j := by
  pointwise [ordered, Rows.pick]

/-- An entry of the first result. -/
theorem out_at (x : FVec Ideal S1x16384x1024 .f32) (g : FVec Ideal S1024 .f32) (w : FVec Ideal S1024x6944 .f32) (n : Fin 16384) (j : Fin 4096) :
    out x g w (ix2 n j) = Rows.pick (fun i => ∑ k, Rows.nrm (fun j => x (ix3 0 n j)) (fun j => g (ix1 j)) k * w (ix2 k i)) j := by
  have h : out x g w (ix2 n j) = ordered (prod (normed x g) w) (ix3 0 n j) := by
    rw [out]
    generalize ordered (prod (normed x g) w) = Z
    pointwise
  rw [h, ordered_at]
  simp only [prod_at, normed_at]

/-- An entry of the gates. -/
theorem gates_at (x : FVec Ideal S1x16384x1024 .f32) (g : FVec Ideal S1024 .f32) (w : FVec Ideal S1024x6944 .f32) (n : Fin 16384) (j : Fin 3072) :
    gates x g w (ix2 n j) = ∑ k, Rows.nrm (fun j => x (ix3 0 n j)) (fun j => g (ix1 j)) k * w (ix2 k (Rows.gateCol j)) := by
  have h : gates x g w (ix2 n j) = prod (normed x g) w (ix3 0 n (Rows.gateCol j)) := by
    rw [gates]
    generalize prod (normed x g) w = Z
    unfold Rows.gateCol
    pointwise
  rw [h, prod_at]
  simp only [normed_at]

/-- The reference ends with its two results and leaves its arguments unchanged. -/
theorem run_out (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v26) = out (m ((c.tc : Thread nD τ).loc main_arg0)) (m ((c.tc : Thread nD τ).loc main_arg1)) (m ((c.tc : Thread nD τ).loc main_arg2))
      ∧ r.2.mem ((c.tc : Thread nD τ).loc main_v28) = gates (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  Value.run m ρ

end Cert.Reference4Ideal.InProj

namespace Cert.Kernel4Ideal.InProj

open Idealize.ShloMosaic Idealize.ShloMosaic.TcCoe Idealize.ShloMosaic.Pipeline
open Cert.Kernel4Ideal Cert.Kernel4Ideal.Gen

/-- The parts' columns side by side. -/
def join (u0 u1 u2 : FVec Ideal S1024x512 .bf16) (u3 : FVec Ideal S1024x1536 .bf16) (u4 u5 : FVec Ideal S1024x256 .bf16) (u6 u7 : FVec Ideal S1024x128 .bf16)
    (u8 : FVec Ideal S1024x32 .bf16) (u9 : FVec Ideal S1024x224 .bf16) : FVec Ideal S1024x4096 .bf16 :=
  concatenate S1024x4096 1 [⟨S1024x512, u0⟩, ⟨S1024x512, u1⟩, ⟨S1024x512, u2⟩, ⟨S1024x1536, u3⟩, ⟨S1024x256, u4⟩, ⟨S1024x256, u5⟩, ⟨S1024x128, u6⟩, ⟨S1024x128, u7⟩, ⟨S1024x32, u8⟩, ⟨S1024x224, u9⟩] concatenates_S1024x512_S1024x512_S1024x512_S1024x1536_S1024x256_S1024x256_S1024x128_S1024x128_S1024x32_S1024x224_S1024x4096_d1

/-- The columns that the call takes, in its order. -/
def columns (w : FVec Ideal S1024x6944 .bf16) : FVec Ideal S1024x4096 .bf16 :=
  join (extractStridedSlice S1024x512 ![0, 0] w slices_S1024x6944_S1024x512_0_0)
    (extractStridedSlice S1024x512 ![0, 2816] w slices_S1024x6944_S1024x512_0_2816)
    (extractStridedSlice S1024x512 ![0, 3328] w slices_S1024x6944_S1024x512_0_3328)
    (extractStridedSlice S1024x1536 ![0, 768] w slices_S1024x6944_S1024x1536_0_768)
    (extractStridedSlice S1024x256 ![0, 2304] w slices_S1024x6944_S1024x256_0_2304)
    (extractStridedSlice S1024x256 ![0, 2560] w slices_S1024x6944_S1024x256_0_2560)
    (extractStridedSlice S1024x128 ![0, 512] w slices_S1024x6944_S1024x128_0_512)
    (extractStridedSlice S1024x128 ![0, 640] w slices_S1024x6944_S1024x128_0_640)
    (extractStridedSlice S1024x32 ![0, 3840] w slices_S1024x6944_S1024x32_0_3840)
    (broadcastInDim S1024x224 ![] bcast_S_S1024x224 (constant S_ .bf16 0x0000#16))

/-- The gates' columns that the call takes. -/
def gateColumns (w : FVec Ideal S1024x6944 .bf16) : FVec Ideal S1024x3072 .bf16 :=
  extractStridedSlice S1024x3072 ![0, 3872] w slices_S1024x6944_S1024x3072_0_3872

/-- An entry of the ordered columns. -/
theorem columns_at (w : FVec Ideal S1024x6944 .bf16) (k : Fin 1024) (j : Fin 4096) :
    columns w (ix2 k j) = Rows.pick (fun i => w (ix2 k i)) j := by
  pointwise [columns, join, Rows.pick]

/-- An entry of the gates' columns. -/
theorem gateColumns_at (w : FVec Ideal S1024x6944 .bf16) (k : Fin 1024) (j : Fin 3072) :
    gateColumns w (ix2 k j) = w (ix2 k (Rows.gateCol j)) := by
  unfold Rows.gateCol
  pointwise [gateColumns]

/-- The normed rows of a block. -/
theorem pay5_at (x : FVec Ideal S512x1024 .f32) (g : FVec Ideal S1x1024 .f32) (r : Fin 512) (k : Fin 1024) :
    k0_pay5 (F := Ideal) x g (ix2 r k) = Rows.nrm (fun j => x (ix2 r j)) (fun j => g (ix2 0 j)) k := by
  pointwise [k0_pay5, Rows.nrm]

/-- The normed rows, as the body names them. -/
theorem pay10_at (x : FVec Ideal S512x1024 .f32) (g : FVec Ideal S1x1024 .f32) (w : FVec Ideal S1024x4096 .bf16) (wg : FVec Ideal S1024x3072 .bf16) (r : Fin 512) (k : Fin 1024) :
    k0_pay10 (F := Ideal) x g w wg (ix2 r k) = Rows.nrm (fun j => x (ix2 r j)) (fun j => g (ix2 0 j)) k := by
  unfold k0_pay10
  frame_out
  exact pay5_at x g r k

/-- Rows times 1024 columns, at an entry. -/
theorem dot_at (h : FVec Ideal S512x1024 .bf16) (w : FVec Ideal S1024x1024 .bf16) (r : Fin 512) (b : Fin 1024) :
    matmul (F := Ideal) dot_S512x1024_S1024x1024_S512x1024_1_0_0_1_n_n none h (shapeCast S1024x1024 w shapeCasts_S1024x1024_S1024x1024) (constant S512x1024 FTy.f32 0#32) (ix2 r b)
      = ∑ k, h (ix2 r k) * w (ix2 k b) := by
  pointwise []

/-- Column `b` of part `i` of columns taken in parts of 1024. -/
def thousand {n : ℕ} (i : ℕ) (b : Fin 1024) (h : 1024 * i + 1024 ≤ n) : Fin n := ⟨1024 * i + b.val, by omega⟩

/-- The first thousand of the ordered columns. -/
theorem cols_0 (w : FVec Ideal S1024x4096 .bf16) (k b : Fin 1024) : View.ld (Val := Elt Ideal) (e' := .bf16) w r0_2 (ix2 k b) = w (ix2 k (thousand 0 b (by decide))) := by
  unfold thousand
  pointwise <;> simp <;> rfl

/-- The second thousand of the ordered columns. -/
theorem cols_1 (w : FVec Ideal S1024x4096 .bf16) (k b : Fin 1024) : View.ld (Val := Elt Ideal) (e' := .bf16) w r0_4 (ix2 k b) = w (ix2 k (thousand 1 b (by decide))) := by
  unfold thousand
  pointwise <;> simp <;> rfl

/-- The third thousand of the ordered columns. -/
theorem cols_2 (w : FVec Ideal S1024x4096 .bf16) (k b : Fin 1024) : View.ld (Val := Elt Ideal) (e' := .bf16) w r0_6 (ix2 k b) = w (ix2 k (thousand 2 b (by decide))) := by
  unfold thousand
  pointwise <;> simp <;> rfl

/-- The fourth thousand of the ordered columns. -/
theorem cols_3 (w : FVec Ideal S1024x4096 .bf16) (k b : Fin 1024) : View.ld (Val := Elt Ideal) (e' := .bf16) w r0_8 (ix2 k b) = w (ix2 k (thousand 3 b (by decide))) := by
  unfold thousand
  pointwise <;> simp <;> rfl

/-- The first thousand of the gates' columns. -/
theorem gateCols_0 (w : FVec Ideal S1024x3072 .bf16) (k b : Fin 1024) : View.ld (Val := Elt Ideal) (e' := .bf16) w r0_10 (ix2 k b) = w (ix2 k (thousand 0 b (by decide))) := by
  unfold thousand
  pointwise <;> simp <;> rfl

/-- The second thousand of the gates' columns. -/
theorem gateCols_1 (w : FVec Ideal S1024x3072 .bf16) (k b : Fin 1024) : View.ld (Val := Elt Ideal) (e' := .bf16) w r0_12 (ix2 k b) = w (ix2 k (thousand 1 b (by decide))) := by
  unfold thousand
  pointwise <;> simp <;> rfl

/-- The third thousand of the gates' columns. -/
theorem gateCols_2 (w : FVec Ideal S1024x3072 .bf16) (k b : Fin 1024) : View.ld (Val := Elt Ideal) (e' := .bf16) w r0_14 (ix2 k b) = w (ix2 k (thousand 2 b (by decide))) := by
  unfold thousand
  pointwise <;> simp <;> rfl

/-- An entry of such a product, where the columns are a part of a wider array's. -/
theorem tile_at (x : FVec Ideal S512x1024 .f32) (g : FVec Ideal S1x1024 .f32) (w : FVec Ideal S1024x4096 .bf16) (wg : FVec Ideal S1024x3072 .bf16)
    {n : ℕ} (i : ℕ) (p : FVec Ideal S1024x1024 .bf16) (v : Fin 1024 → Fin n → EReal) (r : Fin 512) (j : Fin n) (y : S512x1024.Idx) (hr : r.val = (y 0).val)
    (hi : 1024 * i + 1024 ≤ n) (hj : j.val = 1024 * i + (y 1).val) (hv : ∀ k b : Fin 1024, p (ix2 k b) = v k (thousand i b hi)) :
    matmul (F := Ideal) dot_S512x1024_S1024x1024_S512x1024_1_0_0_1_n_n none (k0_pay10 x g w wg) (shapeCast S1024x1024 p shapeCasts_S1024x1024_S1024x1024) (constant S512x1024 FTy.f32 0#32) y
      = ∑ k, Rows.nrm (fun j => x (ix2 r j)) (fun j => g (ix2 0 j)) k * v k j := by
  have hy : y = ix2 r (y 1) := by
    funext b
    fin_cases b
    · exact Fin.ext hr.symm
    · rfl
  rw [hy, show j = thousand i (y 1) hi from Fin.ext hj]
  exact (dot_at _ p r (y 1)).trans (Finset.sum_congr rfl fun k _ => congrArg₂ (· * ·) (pay10_at x g w wg r k) (hv k (y 1)))

/-- An entry of what the body stores in the first result's block. -/
theorem out_at (x : FVec Ideal S512x1024 .f32) (g : FVec Ideal S1x1024 .f32) (w : FVec Ideal S1024x4096 .bf16) (wg : FVec Ideal S1024x3072 .bf16) (r : Fin 512) (j : Fin 4096) :
    out0_4 (F := Ideal) x g w wg (ix2 r j) = ∑ k, Rows.nrm (fun j => x (ix2 r j)) (fun j => g (ix2 0 j)) k * w (ix2 k j) := by
  unfold out0_4
  canon_tiles y h
  case piece0 => exact tile_at x g w wg 3 _ (fun k j => w (ix2 k j)) r j y h0 (by decide) (h1) (cols_3 w)
  case piece1 => exact tile_at x g w wg 2 _ (fun k j => w (ix2 k j)) r j y h0 (by decide) (h1) (cols_2 w)
  case piece2 => exact tile_at x g w wg 1 _ (fun k j => w (ix2 k j)) r j y h0 (by decide) (h1) (cols_1 w)
  case piece3 => exact tile_at x g w wg 0 _ (fun k j => w (ix2 k j)) r j y h0 (by decide) (h1.trans (Nat.zero_add _).symm) (cols_0 w)

/-- An entry of what the body stores in the second result's block. -/
theorem gates_at (x : FVec Ideal S512x1024 .f32) (g : FVec Ideal S1x1024 .f32) (w : FVec Ideal S1024x4096 .bf16) (wg : FVec Ideal S1024x3072 .bf16) (r : Fin 512) (j : Fin 3072) :
    out0_5 (F := Ideal) x g w wg (ix2 r j) = ∑ k, Rows.nrm (fun j => x (ix2 r j)) (fun j => g (ix2 0 j)) k * wg (ix2 k j) := by
  unfold out0_5
  canon_tiles y h
  case piece0 => exact tile_at x g w wg 2 _ (fun k j => wg (ix2 k j)) r j y h0 (by decide) (h1) (gateCols_2 wg)
  case piece1 => exact tile_at x g w wg 1 _ (fun k j => wg (ix2 k j)) r j y h0 (by decide) (h1) (gateCols_1 wg)
  case piece2 => exact tile_at x g w wg 0 _ (fun k j => wg (ix2 k j)) r j y h0 (by decide) (h1.trans (Nat.zero_add _).symm) (gateCols_0 wg)

variable (m : (ℓ : Loc nD τ sig) → Buf (Elt Ideal) ℓ) (c : Dev nD)

/-- Which block of each array point `t` takes. -/
theorem idx : ∀ t : Fin cfg0.N, win0_0.index t = ![t.val, 0] ∧ win0_1.index t = ![0, 0] ∧ win0_2.index t = ![0, 0] ∧ win0_3.index t = ![0, 0] ∧ win0_4.index t = ![t.val, 0] ∧ win0_5.index t = ![t.val, 0] :=
  (by decide +kernel : ∀ t : Fin grid0.N, _)

/-- Row `512 t + r` of the arrays. -/
def row (t : Fin cfg0.N) (r : Fin 512) : Fin 16384 :=
  ⟨512 * t.val + r.val, by have : t.val < 32 := t.isLt; omega⟩

/-- The rows the call takes. -/
theorem V_x : V m c main_v13 = shapeCast S16384x1024 (m ((c.tc : Thread nD τ).loc main_arg0)) shapeCasts_S1x16384x1024_S16384x1024 := by
  entry_read
  rfl

/-- The weights the call takes. -/
theorem V_g : V m c main_v14 = broadcastInDim S1x1024 ![1] bcast_S1024_S1x1024_1 (m ((c.tc : Thread nD τ).loc main_arg1)) := by
  entry_read
  rfl

/-- The host line's last part joins the parts' columns. -/
theorem joined (σ : Valuation τ sig (Elt Ideal)) : StableHlo.after (hostOps0 (F := Ideal).drop 13) σ (Proc.devRef .tc main_v12)
    = join (σ (Proc.devRef .tc main_v1)) (σ (Proc.devRef .tc main_v7)) (σ (Proc.devRef .tc main_v8)) (σ (Proc.devRef .tc main_v4)) (σ (Proc.devRef .tc main_v5)) (σ (Proc.devRef .tc main_v6)) (σ (Proc.devRef .tc main_v2)) (σ (Proc.devRef .tc main_v3)) (σ (Proc.devRef .tc main_v9)) (σ (Proc.devRef .tc main_v11)) := by
  simp only [hostOps0, List.drop]
  rw [StableHlo.after_cons, StableHlo.after_cons, StableHlo.after_cons, StableHlo.after_nil]
  rw [StableHlo.unary_result_ne, StableHlo.reshape_result_ne, StableHlo.nary_result]
  · rfl
  all_goals decide

/-- The columns the call takes, their cast dropped. -/
theorem V_w : V m c main_v12 = columns (m ((c.tc : Thread nD τ).loc main_arg2)) := by
  have h : V m c main_v12 = StableHlo.after (hostOps0 (F := Ideal).drop 13) (StableHlo.after (hostOps0 (F := Ideal).take 13) fun b => m (c, b)) (Proc.devRef .tc main_v12) := rfl
  rw [h, joined]
  simp only [hostOps0, List.take]
  after_results_simp
  rfl

/-- The gates' columns the call takes, their cast dropped. -/
theorem V_wg : V m c main_v10 = gateColumns (m ((c.tc : Thread nD τ).loc main_arg2)) := by
  entry_read
  rfl

/-- Point `t` takes rows `512 t` to `512 t + 511`. -/
theorem iblk_0 (t : Fin cfg0.N) (r : Fin 512) (k : Fin 1024) :
    iblk m c 0 t (ix2 r k) = m ((c.tc : Thread nD τ).loc main_arg0) (ix3 0 (row t r) k) := by
  refine Eq.trans ?_ (Cert.Kernel3Ideal.FinalNorm.rows_at _ _ _)
  rw [← V_x]
  unfold row
  blk_ext [iblk, idx t]

/-- Every point takes all the weights. -/
theorem iblk_1 (t : Fin cfg0.N) (k : Fin 1024) : iblk m c 1 t (ix2 0 k) = m ((c.tc : Thread nD τ).loc main_arg1) (ix1 k) := by
  refine Eq.trans ?_ (Cert.Kernel3Ideal.FinalNorm.weight_at _ _)
  rw [← V_g]
  blk_ext [iblk, idx t]

/-- Every point takes all the ordered columns. -/
theorem iblk_2 (t : Fin cfg0.N) : iblk m c 2 t = columns (m ((c.tc : Thread nD τ).loc main_arg2)) := by
  rw [← V_w m c]
  blk_ext! [iblk, idx t]

/-- Every point takes all the gates' columns. -/
theorem iblk_3 (t : Fin cfg0.N) : iblk m c 3 t = gateColumns (m ((c.tc : Thread nD τ).loc main_arg2)) := by
  rw [← V_wg m c]
  blk_ext! [iblk, idx t]

/-- The reference's first result, of the call's own arguments. -/
abbrev refOut : FVec Ideal S16384x4096 .f32 :=
  Cert.Reference4Ideal.InProj.out (m ((c.tc : Thread nD τ).loc main_arg0)) (m ((c.tc : Thread nD τ).loc main_arg1)) (m ((c.tc : Thread nD τ).loc main_arg2))

/-- The reference's second result, of the call's own arguments. -/
abbrev refGates : FVec Ideal S16384x3072 .bf16 :=
  Cert.Reference4Ideal.InProj.gates (m ((c.tc : Thread nD τ).loc main_arg0)) (m ((c.tc : Thread nD τ).loc main_arg1)) (m ((c.tc : Thread nD τ).loc main_arg2))

/-- The rows a point norms are the reference's. -/
theorem nrm_at (t : Fin cfg0.N) (r : Fin 512) (k : Fin 1024) :
    Rows.nrm (fun j => iblk m c 0 t (ix2 r j)) (fun j => iblk m c 1 t (ix2 0 j)) k
      = Rows.nrm (fun j => m ((c.tc : Thread nD τ).loc main_arg0) (ix3 0 (row t r) j)) (fun j => m ((c.tc : Thread nD τ).loc main_arg1) (ix1 j)) k :=
  congrArg₂ (Rows.nrm · · k) (funext (iblk_0 m c t r)) (funext (iblk_1 m c t))

/-- What a point's body stores in the first result is the reference's rows. -/
theorem body_out (t : Fin cfg0.N) (r : Fin 512) (j : Fin 4096) :
    out0_4 (iblk m c 0 t) (iblk m c 1 t) (columns (m ((c.tc : Thread nD τ).loc main_arg2))) (gateColumns (m ((c.tc : Thread nD τ).loc main_arg2))) (ix2 r j) = refOut m c (ix2 (row t r) j) := by
  refine (out_at _ _ _ _ r j).trans ?_
  refine Eq.trans ?_ (Cert.Reference4Ideal.InProj.out_at _ _ _ (row t r) j).symm
  refine Eq.trans ?_ (Rows.pick_sum _ _ j)
  exact Finset.sum_congr rfl fun k _ => congrArg₂ (· * ·) (nrm_at m c t r k) (columns_at _ k j)

/-- What a point's body stores in the second result is the reference's rows. -/
theorem body_gates (t : Fin cfg0.N) (r : Fin 512) (j : Fin 3072) :
    out0_5 (iblk m c 0 t) (iblk m c 1 t) (columns (m ((c.tc : Thread nD τ).loc main_arg2))) (gateColumns (m ((c.tc : Thread nD τ).loc main_arg2))) (ix2 r j) = refGates m c (ix2 (row t r) j) := by
  refine (gates_at _ _ _ _ r j).trans ?_
  refine Eq.trans ?_ (Cert.Reference4Ideal.InProj.gates_at _ _ _ (row t r) j).symm
  exact Finset.sum_congr rfl fun k _ => congrArg₂ (· * ·) (nrm_at m c t r k) (gateColumns_at _ k j)

/-- The first result's array when the call is done. -/
theorem result_out : (dats m 0 c).arrAt 4 cfg0.N = refOut m c := by
  refine (dats m 0 c).arrAt_eq_of_covers 4 _ (by decide +kernel) fun t _ y => ?_
  blk_simp
  rw [after0_4, iblk_2, iblk_3]
  have hy : y = ix2 (y 0) (y 1) := by funext b; fin_cases b <;> rfl
  generalize hr : y 0 = r at hy
  generalize hj : y 1 = j at hy
  subst hy
  refine (body_out m c t r j).trans ?_
  generalize refOut m c = G
  have hc : (row t r).val = 512 * t.val + r.val := rfl
  generalize row t r = a at hc
  blk_ext [idx t]

/-- The second result's array when the call is done. -/
theorem result_gates : (dats m 0 c).arrAt 5 cfg0.N = refGates m c := by
  refine (dats m 0 c).arrAt_eq_of_covers 5 _ (by decide +kernel) fun t _ y => ?_
  blk_simp
  rw [after0_5, iblk_2, iblk_3]
  have hy : y = ix2 (y 0) (y 1) := by funext b; fin_cases b <;> rfl
  generalize hr : y 0 = r at hy
  generalize hj : y 1 = j at hy
  subst hy
  refine (body_gates m c t r j).trans ?_
  generalize refGates m c = G
  have hc : (row t r).val = 512 * t.val + r.val := rfl
  generalize row t r = a at hc
  blk_ext [idx t]

end Cert.Kernel4Ideal.InProj
-- ==== Proof.MixOut.lean ====
module

public import proofs.«01_k».proof.Proof.Rows
public import proofs.«01_k».proof.Proof.FinalNorm
public import proofs.«01_k».proof.Proof.Gen.Kernel5Ideal.Frame
public import proofs.«01_k».proof.Proof.Gen.Reference5Ideal.Run

@[expose] public section

set_option maxRecDepth 16384

noncomputable section

/-! The output projection call: the three mixers' rows through their projections, gated, added up and projected onto the residual stream. -/

namespace Cert.Rows

open Idealize.ShloMosaic

/-- One linear attention head's output `o`, scaled to unit mean square, times the weights `g`, at entry `d`, times the silu of its gate. -/
def head (o g : Fin 128 → EReal) (s : EReal) (d : Fin 128) : EReal :=
  o d * Ideal.rsqrt (Ideal.div (∑ j, o j * o j) (Ideal.ofBits .f32 0x43000000#32) + Ideal.ofBits .f32 0x358637BD#32) * g d * silu s

/-- Column `d` of head `h`. -/
def col (h : Fin 4) (d : Fin 128) : Fin 512 := ⟨h.val * 128 + d.val, by omega⟩

/-- Every column is one of a head's. -/
theorem exists_col (j : Fin 512) : ∃ h d, j = col h d :=
  ⟨⟨j.val / 128, by omega⟩, ⟨j.val % 128, by omega⟩, Fin.ext (by simp only [col]; omega)⟩

/-- An entry of the three mixers' rows `u0`, `u1`, `u2`, each through its projection and gated, added up, projected and added to `x`. -/
def mixed (x : EReal) (z0 z1 z2 : Fin 1024 → EReal) (u0 u1 u2 : Fin 512 → EReal) (w0 w1 w2 : Fin 512 → Fin 1024 → EReal) (w : Fin 1024 → EReal) : EReal :=
  x + ∑ e, (Ideal.logistic (z0 e) * (∑ j, u0 j * w0 j e) + Ideal.logistic (z1 e) * (∑ j, u1 j * w1 j e) + Ideal.logistic (z2 e) * ∑ j, u2 j * w2 j e) * w e

/-- Column `e` of branch `b`'s gates. -/
def gate (b : Fin 3) (e : Fin 1024) : Fin 3072 := ⟨b.val * 1024 + e.val, by omega⟩

end Cert.Rows

namespace Cert.Reference5Ideal.MixOut

open Idealize.ShloMosaic Idealize.ShloMosaic.TcCoe
open Cert.Reference5Ideal Cert.Reference5Ideal.Gen

/-- The linear attention heads' outputs, normed and gated. -/
def heads (a b : FVec Ideal S1x16384x4x128 .f32) (s : FVec Ideal S1x16384x512 .f32) (g : FVec Ideal S128 .f32) : FVec Ideal S1x16384x4x128 .f32 :=
  mulf (mulf (mulf (addf a b) (broadcastInDim S1x16384x4x128 ![0, 1, 2, 3] bcast_S1x16384x4x1_S1x16384x4x128_0_1_2_3 (Host.rsqrt (addf (Host.divf (broadcastInDim S1x16384x4x1 ![0, 1, 2] bcast_S1x16384x4_S1x16384x4x1_0_1_2 (Host.reduceAdd (mulf (addf a b) (addf a b)) (constant S_ .f32 0x00000000#32) reducesTo_S1x16384x4x128_S1x16384x4_d3 h_S_)) (broadcastInDim S1x16384x4x1 ![] bcast_S_S1x16384x4x1 (constant S_ .f32 0x43000000#32))) (broadcastInDim S1x16384x4x1 ![] bcast_S_S1x16384x4x1 (constant S_ .f32 0x358637BD#32)))))) (broadcastInDim S1x16384x4x128 ![0, 1, 2, 3] bcast_S1x1x1x128_S1x16384x4x128_0_1_2_3 (broadcastInDim S1x1x1x128 ![3] bcast_S128_S1x1x1x128_3 g)))
    (shapeCast S1x16384x4x128 (mulf s (Host.divf (broadcastInDim S1x16384x512 ![] bcast_S_S1x16384x512 (constant S_ .f32 0x3F800000#32)) (addf (broadcastInDim S1x16384x512 ![] bcast_S_S1x16384x512 (constant S_ .f32 0x3F800000#32)) (Host.exp (Host.negf s))))) shapeCasts_S1x16384x512_S1x16384x4x128)

/-- The heads side by side. -/
def flat (o : FVec Ideal S1x16384x4x128 .f32) : FVec Ideal S1x16384x512 .f32 :=
  shapeCast S1x16384x512 o shapeCasts_S1x16384x4x128_S1x16384x512

/-- The three mixers' rows stacked. -/
def stack (u0 u1 u2 : FVec Ideal S1x16384x512 .f32) : FVec Ideal S1x16384x3x512 .f32 :=
  concatenate S1x16384x3x512 2 [⟨S1x16384x1x512, broadcastInDim S1x16384x1x512 ![0, 1, 3] bcast_S1x16384x512_S1x16384x1x512_0_1_3 u0⟩,
    ⟨S1x16384x1x512, broadcastInDim S1x16384x1x512 ![0, 1, 3] bcast_S1x16384x512_S1x16384x1x512_0_1_3 u1⟩,
    ⟨S1x16384x1x512, broadcastInDim S1x16384x1x512 ![0, 1, 3] bcast_S1x16384x512_S1x16384x1x512_0_1_3 u2⟩] concatenates_S1x16384x1x512_S1x16384x1x512_S1x16384x1x512_S1x16384x3x512_d2

/-- Each mixer's rows through its projection. -/
def proj (w : FVec Ideal S3x512x1024 .f32) (u : FVec Ideal S1x16384x3x512 .f32) : FVec Ideal S1x16384x3x1024 .f32 :=
  transpose S1x16384x3x1024 [2, 3, 0, 1] (Host.dotGeneral dot_S3x512x1024_S1x16384x3x512_S3x1024x1x16384_1_3_2_01_0_2 none w u) transposes_S3x1024x1x16384_S1x16384x3x1024_2_3_0_1

/-- The gates' logistic values. -/
def opened (z : FVec Ideal S1x16384x3072 .f32) : FVec Ideal S1x16384x3x1024 .f32 :=
  Host.divf (broadcastInDim S1x16384x3x1024 ![] bcast_S_S1x16384x3x1024 (constant S_ .f32 0x3F800000#32)) (addf (broadcastInDim S1x16384x3x1024 ![] bcast_S_S1x16384x3x1024 (constant S_ .f32 0x3F800000#32)) (Host.exp (Host.negf (shapeCast S1x16384x3x1024 z shapeCasts_S1x16384x3072_S1x16384x3x1024))))

/-- The gated projections added up. -/
def merged (s p : FVec Ideal S1x16384x3x1024 .f32) : FVec Ideal S1x16384x1024 .f32 :=
  Host.reduceAdd (mulf s p) (constant S_ .f32 0x00000000#32) reducesTo_S1x16384x3x1024_S1x16384x1024_d2 h_S_

/-- The last projection added to the residual stream. -/
def added (x u : FVec Ideal S1x16384x1024 .f32) (w : FVec Ideal S1024x1024 .f32) : FVec Ideal S16384x1024 .f32 :=
  shapeCast S16384x1024 (addf x (Host.dotGeneral dot_S1x16384x1024_S1024x1024_S1x16384x1024_2_0_01_1_n_n none u w)) shapeCasts_S1x16384x1024_S16384x1024

/-- The reference's result. -/
def out (x : FVec Ideal S1x16384x1024 .f32) (ya yh : FVec Ideal S1x16384x512 .f32) (a b : FVec Ideal S1x16384x4x128 .f32) (s : FVec Ideal S1x16384x512 .f32)
    (z : FVec Ideal S1x16384x3072 .f32) (g : FVec Ideal S128 .f32) (w : FVec Ideal S3x512x1024 .f32) (wo : FVec Ideal S1024x1024 .f32) : FVec Ideal S16384x1024 .f32 :=
  added x (merged (opened z) (proj w (stack ya yh (flat (heads a b s g))))) wo

/-- An entry of the heads' outputs. -/
theorem heads_at (a b : FVec Ideal S1x16384x4x128 .f32) (s : FVec Ideal S1x16384x512 .f32) (g : FVec Ideal S128 .f32) (n : Fin 16384) (h : Fin 4) (d : Fin 128) :
    heads a b s g (ix4 0 n h d) = Rows.head (fun e => a (ix4 0 n h e) + b (ix4 0 n h e)) (fun e => g (ix1 e)) (s (ix3 0 n (Rows.col h d))) d := by
  unfold Rows.col
  pointwise [heads, Rows.head, Rows.silu, Ideal.logistic]

/-- An entry of the heads side by side. -/
theorem flat_at (o : FVec Ideal S1x16384x4x128 .f32) (n : Fin 16384) (h : Fin 4) (d : Fin 128) : flat o (ix3 0 n (Rows.col h d)) = o (ix4 0 n h d) := by
  unfold Rows.col
  pointwise [flat]

/-- The first mixer's rows in the stack. -/
theorem stack_0 (u0 u1 u2 : FVec Ideal S1x16384x512 .f32) (n : Fin 16384) (j : Fin 512) : stack u0 u1 u2 (ix4 0 n 0 j) = u0 (ix3 0 n j) := by
  pointwise [stack]

/-- The second mixer's rows in the stack. -/
theorem stack_1 (u0 u1 u2 : FVec Ideal S1x16384x512 .f32) (n : Fin 16384) (j : Fin 512) : stack u0 u1 u2 (ix4 0 n 1 j) = u1 (ix3 0 n j) := by
  pointwise [stack]

/-- The third mixer's rows in the stack. -/
theorem stack_2 (u0 u1 u2 : FVec Ideal S1x16384x512 .f32) (n : Fin 16384) (j : Fin 512) : stack u0 u1 u2 (ix4 0 n 2 j) = u2 (ix3 0 n j) := by
  pointwise [stack]

/-- An entry of a projection. -/
theorem proj_at (w : FVec Ideal S3x512x1024 .f32) (u : FVec Ideal S1x16384x3x512 .f32) (n : Fin 16384) (b : Fin 3) (e : Fin 1024) :
    proj w u (ix4 0 n b e) = ∑ j : Fin 512, u (ix4 0 n b j) * w (ix3 b j e) := by
  refine Eq.trans ?_ (Finset.sum_congr rfl fun j _ => mul_comm (w (ix3 b j e)) (u (ix4 0 n b j)))
  pointwise [proj]

/-- A gate's logistic value. -/
theorem opened_at (z : FVec Ideal S1x16384x3072 .f32) (n : Fin 16384) (b : Fin 3) (e : Fin 1024) :
    opened z (ix4 0 n b e) = Ideal.logistic (z (ix3 0 n (Rows.gate b e))) := by
  unfold Rows.gate
  pointwise [opened, Ideal.logistic]

/-- An entry of the gated projections' sum. -/
theorem merged_at (s p : FVec Ideal S1x16384x3x1024 .f32) (n : Fin 16384) (e : Fin 1024) :
    merged s p (ix3 0 n e) = ∑ b : Fin 3, s (ix4 0 n b e) * p (ix4 0 n b e) := by
  pointwise [merged]

/-- An entry of the result, of the gated projections' sum. -/
theorem added_at (x u : FVec Ideal S1x16384x1024 .f32) (w : FVec Ideal S1024x1024 .f32) (n : Fin 16384) (d : Fin 1024) :
    added x u w (ix2 n d) = x (ix3 0 n d) + ∑ e : Fin 1024, u (ix3 0 n e) * w (ix2 e d) := by
  pointwise [added]

/-- An entry of the result. -/
theorem out_at (x : FVec Ideal S1x16384x1024 .f32) (ya yh : FVec Ideal S1x16384x512 .f32) (a b : FVec Ideal S1x16384x4x128 .f32) (s : FVec Ideal S1x16384x512 .f32)
    (z : FVec Ideal S1x16384x3072 .f32) (g : FVec Ideal S128 .f32) (w : FVec Ideal S3x512x1024 .f32) (wo : FVec Ideal S1024x1024 .f32) (n : Fin 16384) (d : Fin 1024) :
    out x ya yh a b s z g w wo (ix2 n d) = Rows.mixed (x (ix3 0 n d)) (fun e => z (ix3 0 n (Rows.gate 0 e))) (fun e => z (ix3 0 n (Rows.gate 1 e))) (fun e => z (ix3 0 n (Rows.gate 2 e)))
      (fun j => ya (ix3 0 n j)) (fun j => yh (ix3 0 n j)) (fun j => flat (heads a b s g) (ix3 0 n j))
      (fun j e => w (ix3 0 j e)) (fun j e => w (ix3 1 j e)) (fun j e => w (ix3 2 j e)) fun e => wo (ix2 e d) := by
  unfold out Rows.mixed
  generalize flat (heads a b s g) = yg
  refine (added_at _ _ _ n d).trans (congrArg (x (ix3 0 n d) + ·) (Finset.sum_congr rfl fun e _ => congrArg (· * wo (ix2 e d)) ?_))
  refine (merged_at _ _ n e).trans ?_
  rw [Fin.sum_univ_three]
  simp only [opened_at, proj_at, stack_0, stack_1, stack_2]

/-- The reference ends with its result and leaves its arguments unchanged. -/
theorem run_out (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v35) = out (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  Value.run m ρ

end Cert.Reference5Ideal.MixOut

namespace Cert.Kernel5Ideal.MixOut

open Idealize.ShloMosaic Idealize.ShloMosaic.TcCoe Idealize.ShloMosaic.Pipeline
open Cert.Kernel5Ideal Cert.Kernel5Ideal.Gen

/-- One head's output `o`, normed and times the silu of its gates `s`. -/
def head (o s : FVec Ideal S512x128 .f32) (g : FVec Ideal S1x128 .f32) : FVec Ideal S512x128 .f32 :=
  mulf (mulf (mulf o (broadcastTo S512x128 (rsqrt (addf (divf (shapeCast S512x1 (multiReduction .add [1] S512 (mulf o o) 0x00000000#32 reduces_S512x128_S512 (.inl rfl) rfl) shapeCasts_S512_S512x1)
    (broadcast S512x1 (Scalar.ofBits (F := Ideal) .f32 0x43000000#32))) (broadcast S512x1 (Scalar.ofBits (F := Ideal) .f32 0x358637BD#32)))) broadcasts_S512x1_S512x128)) (broadcastTo S512x128 g broadcasts_S1x128_S512x128)) (mulf s (logistic s))

/-- An entry of a head's output. -/
theorem head_at (o s : FVec Ideal S512x128 .f32) (g : FVec Ideal S1x128 .f32) (r : Fin 512) (d : Fin 128) :
    head o s g (ix2 r d) = Rows.head (fun e => o (ix2 r e)) (fun e => g (ix2 0 e)) (s (ix2 r d)) d := by
  pointwise [head, Rows.head, Rows.silu]

/-- Head `0`, `1`, `2` or `3` of an array of heads side by side. -/
def part_0 (u : FVec Ideal S512x512 .f32) : FVec Ideal S512x128 .f32 := extractStridedSlice S512x128 ![0, 0] u slices_S512x512_o0_0_S512x128
@[inherit_doc part_0] def part_1 (u : FVec Ideal S512x512 .f32) : FVec Ideal S512x128 .f32 := extractStridedSlice S512x128 ![0, 128] u slices_S512x512_o0_128_S512x128
@[inherit_doc part_0] def part_2 (u : FVec Ideal S512x512 .f32) : FVec Ideal S512x128 .f32 := extractStridedSlice S512x128 ![0, 256] u slices_S512x512_o0_256_S512x128
@[inherit_doc part_0] def part_3 (u : FVec Ideal S512x512 .f32) : FVec Ideal S512x128 .f32 := extractStridedSlice S512x128 ![0, 384] u slices_S512x512_o0_384_S512x128

/-- An entry of a head. -/
theorem part_at (u : FVec Ideal S512x512 .f32) (r : Fin 512) (h : Fin 4) (d : Fin 128) : ![part_0 u, part_1 u, part_2 u, part_3 u] h (ix2 r d) = u (ix2 r (Rows.col h d)) := by
  unfold Rows.col
  fin_cases h <;> pointwise [part_0, part_1, part_2, part_3]

/-- Four heads side by side. -/
def beside (v0 v1 v2 v3 : FVec Ideal S512x128 .f32) : FVec Ideal S512x512 .f32 :=
  concatenate S512x512 1 [⟨S512x128, v0⟩, ⟨S512x128, v1⟩, ⟨S512x128, v2⟩, ⟨S512x128, v3⟩] concatenates_S512x128_S512x128_S512x128_S512x128_S512x512_d1

/-- An entry of four heads side by side. -/
theorem beside_at (v0 v1 v2 v3 : FVec Ideal S512x128 .f32) (r : Fin 512) (h : Fin 4) (d : Fin 128) : beside v0 v1 v2 v3 (ix2 r (Rows.col h d)) = ![v0, v1, v2, v3] h (ix2 r d) := by
  unfold Rows.col
  fin_cases h <;> pointwise [beside]
  · split_ifs <;> first | omega | exact congrArg (fun j => v2 (ix2 r j)) (Fin.ext (by change 256 + d.val - 128 - 128 = d.val; omega))
  · split_ifs <;> first | omega | exact congrArg (fun j => v3 (ix2 r j)) (Fin.ext (by change 384 + d.val - 128 - 128 - 128 = d.val; omega))

/-- The heads' outputs of a block. -/
def heads (a b s : FVec Ideal S512x512 .f32) (g : FVec Ideal S1x128 .f32) : FVec Ideal S512x512 .f32 :=
  k0_pay9 (k0_pay2 a b) (k0_pay3 s) (k0_pay4 g) (k0_pay5 a b s g) (k0_pay6 a b s g) (k0_pay7 a b) (k0_pay8 a b)

/-- The heads' outputs are each head's, side by side. -/
theorem heads_eq (a b s : FVec Ideal S512x512 .f32) (g : FVec Ideal S1x128 .f32) :
    heads a b s g = beside (head (part_0 (k0_pay2 a b)) (part_0 (k0_pay3 s)) (k0_pay4 g)) (head (part_1 (k0_pay2 a b)) (part_1 (k0_pay3 s)) (k0_pay4 g))
      (head (part_2 (k0_pay2 a b)) (part_2 (k0_pay3 s)) (k0_pay4 g)) (head (part_3 (k0_pay2 a b)) (part_3 (k0_pay3 s)) (k0_pay4 g)) := rfl

/-- The two directions' outputs added. -/
theorem pay2_at (a b : FVec Ideal S512x512 .f32) (r j : Fin 512) : k0_pay2 (F := Ideal) a b (ix2 r j) = a (ix2 r j) + b (ix2 r j) := by
  pointwise [k0_pay2]

/-- The gates as they are. -/
theorem pay3_at (s : FVec Ideal S512x512 .f32) (r j : Fin 512) : k0_pay3 (F := Ideal) s (ix2 r j) = s (ix2 r j) := by
  pointwise [k0_pay3]

/-- The weights as they are. -/
theorem pay4_at (g : FVec Ideal S1x128 .f32) (d : Fin 128) : k0_pay4 (F := Ideal) g (ix2 0 d) = g (ix2 0 d) := by
  pointwise [k0_pay4]

/-- An entry of the heads' outputs. -/
theorem heads_at (a b s : FVec Ideal S512x512 .f32) (g : FVec Ideal S1x128 .f32) (r : Fin 512) (h : Fin 4) (d : Fin 128) :
    heads a b s g (ix2 r (Rows.col h d)) = Rows.head (fun e => a (ix2 r (Rows.col h e)) + b (ix2 r (Rows.col h e))) (fun e => g (ix2 0 e)) (s (ix2 r (Rows.col h d))) d := by
  have each (u v : FVec Ideal S512x512 .f32) (q : FVec Ideal S1x128 .f32) :
      ![head (part_0 u) (part_0 v) q, head (part_1 u) (part_1 v) q, head (part_2 u) (part_2 v) q, head (part_3 u) (part_3 v) q] h
        = head (![part_0 u, part_1 u, part_2 u, part_3 u] h) (![part_0 v, part_1 v, part_2 v, part_3 v] h) q := by
    fin_cases h <;> rfl
  rw [heads_eq, beside_at, each, head_at]
  simp only [part_at, pay2_at, pay3_at, pay4_at]

/-- The first mixer's gated projection. -/
theorem pay10_at (u : FVec Ideal S512x512 .bf16) (w : FVec Ideal S1x512x1024 .bf16) (z : FVec Ideal S512x1024 .bf16) (r : Fin 512) (e : Fin 1024) :
    k0_pay10 (F := Ideal) u w z (ix2 r e) = Ideal.logistic (z (ix2 r e)) * ∑ j : Fin 512, u (ix2 j r) * w (ix3 0 j e) := by
  pointwise [k0_pay10]

/-- The body's result, of the first mixer's part and the heads' outputs. -/
theorem pay1_at (h : FVec Ideal S512x512 .f32) (p : FVec Ideal S512x1024 .f32) (z1 : FVec Ideal S512x1024 .bf16) (u1 : FVec Ideal S512x512 .f32) (w1 : FVec Ideal S1x512x1024 .bf16)
    (z2 : FVec Ideal S512x1024 .bf16) (w2 : FVec Ideal S1x512x1024 .bf16) (x : FVec Ideal S512x1024 .f32) (w : FVec Ideal S1024x1024 .bf16) (r : Fin 512) (d : Fin 1024) :
    k0_pay1 (F := Ideal) h p z1 u1 w1 z2 w2 x w (ix2 r d) = x (ix2 r d) + ∑ e : Fin 1024, (p (ix2 r e) + Ideal.logistic (z1 (ix2 r e)) * (∑ j : Fin 512, u1 (ix2 r j) * w1 (ix3 0 j e))
      + Ideal.logistic (z2 (ix2 r e)) * ∑ j : Fin 512, h (ix2 r j) * w2 (ix3 0 j e)) * w (ix2 e d) := by
  pointwise [k0_pay1]

/-- A branch's projection matrix. -/
theorem branch_0 (w : FVec Ideal S3x512x1024 .bf16) (j : Fin 512) (e : Fin 1024) : View.ld (Val := Elt Ideal) (e' := .bf16) w r0_2 (ix3 0 j e) = w (ix3 0 j e) := by
  pointwise <;> simp <;> rfl
@[inherit_doc branch_0] theorem branch_1 (w : FVec Ideal S3x512x1024 .bf16) (j : Fin 512) (e : Fin 1024) : View.ld (Val := Elt Ideal) (e' := .bf16) w r0_4 (ix3 0 j e) = w (ix3 1 j e) := by
  pointwise <;> simp <;> rfl
@[inherit_doc branch_0] theorem branch_2 (w : FVec Ideal S3x512x1024 .bf16) (j : Fin 512) (e : Fin 1024) : View.ld (Val := Elt Ideal) (e' := .bf16) w r0_5 (ix3 0 j e) = w (ix3 2 j e) := by
  pointwise <;> simp <;> rfl

/-- An entry of what the body stores, of its blocks. -/
theorem out_at (x : FVec Ideal S512x1024 .f32) (ya : FVec Ideal S512x512 .bf16) (yh a b s : FVec Ideal S512x512 .f32) (z0 z1 z2 : FVec Ideal S512x1024 .bf16)
    (w : FVec Ideal S3x512x1024 .bf16) (wo : FVec Ideal S1024x1024 .bf16) (g : FVec Ideal S1x128 .f32) (r : Fin 512) (d : Fin 1024) :
    out0_12 (F := Ideal) x ya yh a b s z0 z1 z2 w wo g (ix2 r d) = Rows.mixed (x (ix2 r d)) (fun e => z0 (ix2 r e)) (fun e => z1 (ix2 r e)) (fun e => z2 (ix2 r e))
      (fun j => ya (ix2 j r)) (fun j => yh (ix2 r j)) (fun j => heads a b s g (ix2 r j))
      (fun j e => w (ix3 0 j e)) (fun j e => w (ix3 1 j e)) (fun j e => w (ix3 2 j e)) fun e => wo (ix2 e d) := by
  unfold out0_12
  frame_out
  refine (pay1_at _ _ _ _ _ _ _ _ _ r d).trans ?_
  refine congrArg (x (ix2 r d) + ·) (Finset.sum_congr rfl fun e _ => congrArg (· * wo (ix2 e d)) ?_)
  refine congrArg₂ (· + ·) (congrArg₂ (· + ·) ((pay10_at _ _ _ r e).trans ?_) ?_) ?_
  · exact congrArg (_ * ·) (Finset.sum_congr rfl fun j _ => congrArg (_ * ·) (branch_0 w j e))
  · exact congrArg (_ * ·) (Finset.sum_congr rfl fun j _ => congrArg (_ * ·) (branch_1 w j e))
  · exact congrArg (_ * ·) (Finset.sum_congr rfl fun j _ => congrArg (_ * ·) (branch_2 w j e))

variable (m : (ℓ : Loc nD τ sig) → Buf (Elt Ideal) ℓ) (c : Dev nD)

/-- Which block of each array point `t` takes. -/
theorem idx : ∀ t : Fin cfg0.N, win0_0.index t = ![t.val, 0] ∧ win0_1.index t = ![0, t.val] ∧ win0_2.index t = ![t.val, 0] ∧ win0_3.index t = ![t.val, 0] ∧ win0_4.index t = ![t.val, 0]
    ∧ win0_5.index t = ![t.val, 2] ∧ win0_6.index t = ![t.val, 0] ∧ win0_7.index t = ![t.val, 1] ∧ win0_8.index t = ![t.val, 2] ∧ win0_9.index t = ![0, 0, 0] ∧ win0_10.index t = ![0, 0]
    ∧ win0_11.index t = ![0, 0] ∧ win0_12.index t = ![t.val, 0] :=
  (by decide +kernel : ∀ t : Fin grid0.N, _)

/-- Row `512 t + r` of the arrays. -/
def row (t : Fin cfg0.N) (r : Fin 512) : Fin 16384 :=
  ⟨512 * t.val + r.val, by have : t.val < 32 := t.isLt; omega⟩

/-- The rows the call takes. -/
theorem V_x : V m c main_v2 = shapeCast S16384x1024 (m ((c.tc : Thread nD τ).loc main_arg0)) shapeCasts_S1x16384x1024_S16384x1024 := by
  entry_read
  rfl

/-- The first mixer's rows the call takes, their cast dropped. -/
theorem V_ya : V m c main_v5 = transpose S512x16384 [1, 0] (shapeCast S16384x512 (m ((c.tc : Thread nD τ).loc main_arg1)) shapeCasts_S1x16384x512_S16384x512) transposes_S16384x512_S512x16384_1_0 := by
  entry_read
  rfl

/-- The second mixer's rows the call takes. -/
theorem V_yh : V m c main_v6 = shapeCast S16384x512 (m ((c.tc : Thread nD τ).loc main_arg2)) shapeCasts_S1x16384x512_S16384x512 := by
  entry_read
  rfl

/-- One direction's outputs the call takes. -/
theorem V_a : V m c main_v7 = shapeCast S16384x512 (m ((c.tc : Thread nD τ).loc main_arg3)) shapeCasts_S1x16384x4x128_S16384x512 := by
  entry_read
  rfl

/-- The other direction's outputs the call takes. -/
theorem V_b : V m c main_v8 = shapeCast S16384x512 (m ((c.tc : Thread nD τ).loc main_arg4)) shapeCasts_S1x16384x4x128_S16384x512 := by
  entry_read
  rfl

/-- The output gates the call takes, between columns of zeros. -/
theorem V_s : V m c main_v1 = pad S16384x4096 ![0, 1024] ![0, 2560] ![0, 0] (shapeCast S16384x512 (m ((c.tc : Thread nD τ).loc main_arg5)) shapeCasts_S1x16384x512_S16384x512) (sitofp (F := Ideal) .f32 (constantI S_ 32 0#32)) pads_S16384x512_S16384x4096_000_102425600 h_S_ := by
  entry_read
  rfl

/-- The branches' gates the call takes, their cast dropped. -/
theorem V_z : V m c main_v10 = shapeCast S16384x3072 (m ((c.tc : Thread nD τ).loc main_arg6)) shapeCasts_S1x16384x3072_S16384x3072 := by
  entry_read
  rfl

/-- The branches' projections the call takes, their cast dropped. -/
theorem V_w : V m c main_v11 = m ((c.tc : Thread nD τ).loc main_arg8) := by
  entry_read
  rfl

/-- The last projection the call takes, its cast dropped. -/
theorem V_wo : V m c main_v12 = m ((c.tc : Thread nD τ).loc main_arg9) := by
  entry_read
  rfl

/-- The weights the call takes. -/
theorem V_g : V m c main_v13 = broadcastInDim S1x128 ![1] bcast_S128_S1x128_1 (m ((c.tc : Thread nD τ).loc main_arg7)) := by
  entry_read
  rfl

/-- An entry of the second mixer's rows. -/
theorem flat_at (u : FVec Ideal S1x16384x512 .f32) (n : Fin 16384) (j : Fin 512) : shapeCast S16384x512 u shapeCasts_S1x16384x512_S16384x512 (ix2 n j) = u (ix3 0 n j) := by
  pointwise

/-- An entry of the first mixer's rows, turned. -/
theorem turned_at (u : FVec Ideal S1x16384x512 .f32) (n : Fin 16384) (j : Fin 512) : transpose S512x16384 [1, 0] (shapeCast S16384x512 u shapeCasts_S1x16384x512_S16384x512) transposes_S16384x512_S512x16384_1_0 (ix2 j n) = u (ix3 0 n j) := by
  pointwise

/-- An entry of a direction's outputs, the heads side by side. -/
theorem side_at (o : FVec Ideal S1x16384x4x128 .f32) (n : Fin 16384) (h : Fin 4) (d : Fin 128) : shapeCast S16384x512 o shapeCasts_S1x16384x4x128_S16384x512 (ix2 n (Rows.col h d)) = o (ix4 0 n h d) := by
  unfold Rows.col
  pointwise

/-- An entry of the branches' gates. -/
theorem gates_at (z : FVec Ideal S1x16384x3072 .f32) (n : Fin 16384) (j : Fin 3072) : shapeCast S16384x3072 z shapeCasts_S1x16384x3072_S16384x3072 (ix2 n j) = z (ix3 0 n j) := by
  pointwise

/-- An entry of the weights. -/
theorem weights_at (g : FVec Ideal S128 .f32) (d : Fin 128) : broadcastInDim S1x128 ![1] bcast_S128_S1x128_1 g (ix2 0 d) = g (ix1 d) := by
  pointwise

/-- Column `j` of the output gates' place among the 4096 columns. -/
def place (j : Fin 512) : Fin 4096 := ⟨1024 + j.val, by omega⟩

/-- An entry of the output gates. -/
theorem padded_at (s : FVec Ideal S1x16384x512 .f32) (z : FVec Ideal S_ .f32) (n : Fin 16384) (j : Fin 512) : pad S16384x4096 ![0, 1024] ![0, 2560] ![0, 0] (shapeCast S16384x512 s shapeCasts_S1x16384x512_S16384x512) z pads_S16384x512_S16384x4096_000_102425600 h_S_ (ix2 n (place j)) = s (ix3 0 n j) := by
  unfold place
  pointwise

/-- Point `t` takes rows `512 t` to `512 t + 511`. -/
theorem iblk_0 (t : Fin cfg0.N) (r : Fin 512) (k : Fin 1024) : iblk m c 0 t (ix2 r k) = m ((c.tc : Thread nD τ).loc main_arg0) (ix3 0 (row t r) k) := by
  refine Eq.trans ?_ (Cert.Kernel3Ideal.FinalNorm.rows_at _ _ _)
  rw [← V_x m c]
  unfold row
  blk_ext [iblk, idx t]

/-- The same rows of the first mixer, turned. -/
theorem iblk_1 (t : Fin cfg0.N) (r : Fin 512) (j : Fin 512) : iblk m c 1 t (ix2 j r) = m ((c.tc : Thread nD τ).loc main_arg1) (ix3 0 (row t r) j) := by
  refine Eq.trans ?_ (turned_at _ (row t r) j)
  rw [← V_ya m c]
  unfold row
  blk_ext [iblk, idx t]

/-- The same rows of the second mixer. -/
theorem iblk_2 (t : Fin cfg0.N) (r : Fin 512) (j : Fin 512) : iblk m c 2 t (ix2 r j) = m ((c.tc : Thread nD τ).loc main_arg2) (ix3 0 (row t r) j) := by
  refine Eq.trans ?_ (flat_at _ (row t r) j)
  rw [← V_yh m c]
  unfold row
  blk_ext [iblk, idx t]

/-- The same rows of one direction's outputs. -/
theorem iblk_3 (t : Fin cfg0.N) (r : Fin 512) (h : Fin 4) (d : Fin 128) : iblk m c 3 t (ix2 r (Rows.col h d)) = m ((c.tc : Thread nD τ).loc main_arg3) (ix4 0 (row t r) h d) := by
  refine Eq.trans ?_ (side_at _ (row t r) h d)
  rw [← V_a m c]
  unfold row
  blk_ext [iblk, idx t]

/-- The same rows of the other direction's outputs. -/
theorem iblk_4 (t : Fin cfg0.N) (r : Fin 512) (h : Fin 4) (d : Fin 128) : iblk m c 4 t (ix2 r (Rows.col h d)) = m ((c.tc : Thread nD τ).loc main_arg4) (ix4 0 (row t r) h d) := by
  refine Eq.trans ?_ (side_at _ (row t r) h d)
  rw [← V_b m c]
  unfold row
  blk_ext [iblk, idx t]

/-- The same rows of the output gates. -/
theorem iblk_5 (t : Fin cfg0.N) (r : Fin 512) (j : Fin 512) : iblk m c 5 t (ix2 r j) = m ((c.tc : Thread nD τ).loc main_arg5) (ix3 0 (row t r) j) := by
  refine Eq.trans ?_ (padded_at _ (sitofp (F := Ideal) .f32 (constantI S_ 32 0#32)) (row t r) j)
  rw [← V_s m c]
  unfold place row
  blk_ext [iblk, idx t]

/-- The same rows of branch 0's gates. -/
theorem iblk_6 (t : Fin cfg0.N) (r : Fin 512) (e : Fin 1024) : iblk m c 6 t (ix2 r e) = m ((c.tc : Thread nD τ).loc main_arg6) (ix3 0 (row t r) (Rows.gate 0 e)) := by
  refine Eq.trans ?_ (gates_at _ (row t r) (Rows.gate 0 e))
  rw [← V_z m c]
  unfold Rows.gate row
  blk_ext [iblk, idx t]

/-- The same rows of branch 1's gates. -/
theorem iblk_7 (t : Fin cfg0.N) (r : Fin 512) (e : Fin 1024) : iblk m c 7 t (ix2 r e) = m ((c.tc : Thread nD τ).loc main_arg6) (ix3 0 (row t r) (Rows.gate 1 e)) := by
  refine Eq.trans ?_ (gates_at _ (row t r) (Rows.gate 1 e))
  rw [← V_z m c]
  unfold Rows.gate row
  blk_ext [iblk, idx t]

/-- The same rows of branch 2's gates. -/
theorem iblk_8 (t : Fin cfg0.N) (r : Fin 512) (e : Fin 1024) : iblk m c 8 t (ix2 r e) = m ((c.tc : Thread nD τ).loc main_arg6) (ix3 0 (row t r) (Rows.gate 2 e)) := by
  refine Eq.trans ?_ (gates_at _ (row t r) (Rows.gate 2 e))
  rw [← V_z m c]
  unfold Rows.gate row
  blk_ext [iblk, idx t]

/-- Every point takes all three projections. -/
theorem iblk_9 (t : Fin cfg0.N) : iblk m c 9 t = m ((c.tc : Thread nD τ).loc main_arg8) := by
  rw [← V_w m c]
  blk_ext! [iblk, idx t]

/-- Every point takes the whole last projection. -/
theorem iblk_10 (t : Fin cfg0.N) : iblk m c 10 t = m ((c.tc : Thread nD τ).loc main_arg9) := by
  rw [← V_wo m c]
  blk_ext! [iblk, idx t]

/-- Every point takes all the weights. -/
theorem iblk_11 (t : Fin cfg0.N) (d : Fin 128) : iblk m c 11 t (ix2 0 d) = m ((c.tc : Thread nD τ).loc main_arg7) (ix1 d) := by
  refine Eq.trans ?_ (weights_at _ d)
  rw [← V_g m c]
  blk_ext [iblk, idx t]

/-- The reference's result, of the call's own arguments. -/
abbrev ref : FVec Ideal S16384x1024 .f32 :=
  Cert.Reference5Ideal.MixOut.out (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))

/-- The heads' outputs of a point are the reference's. -/
theorem heads_row (t : Fin cfg0.N) (r j : Fin 512) : heads (iblk m c 3 t) (iblk m c 4 t) (iblk m c 5 t) (iblk m c 11 t) (ix2 r j)
    = Cert.Reference5Ideal.MixOut.flat (Cert.Reference5Ideal.MixOut.heads (m ((c.tc : Thread nD τ).loc main_arg3)) (m ((c.tc : Thread nD τ).loc main_arg4)) (m ((c.tc : Thread nD τ).loc main_arg5)) (m ((c.tc : Thread nD τ).loc main_arg7))) (ix3 0 (row t r) j) := by
  obtain ⟨h, d, rfl⟩ := Rows.exists_col j
  refine (heads_at _ _ _ _ r h d).trans ?_
  refine Eq.trans ?_ ((Cert.Reference5Ideal.MixOut.flat_at _ (row t r) h d).trans (Cert.Reference5Ideal.MixOut.heads_at _ _ _ _ (row t r) h d)).symm
  exact congr (congr (congrArg₂ Rows.head (funext fun e => congrArg₂ (· + ·) (iblk_3 m c t r h e) (iblk_4 m c t r h e)) (funext fun e => iblk_11 m c t e)) (iblk_5 m c t r (Rows.col h d))) rfl

/-- What a point's body stores is the reference's rows. -/
theorem body_at (t : Fin cfg0.N) (r : Fin 512) (d : Fin 1024) :
    out0_12 (iblk m c 0 t) (iblk m c 1 t) (iblk m c 2 t) (iblk m c 3 t) (iblk m c 4 t) (iblk m c 5 t) (iblk m c 6 t) (iblk m c 7 t) (iblk m c 8 t)
      (m ((c.tc : Thread nD τ).loc main_arg8)) (m ((c.tc : Thread nD τ).loc main_arg9)) (iblk m c 11 t) (ix2 r d) = ref m c (ix2 (row t r) d) := by
  refine (out_at _ _ _ _ _ _ _ _ _ _ _ _ r d).trans ?_
  refine Eq.trans ?_ (Cert.Reference5Ideal.MixOut.out_at _ _ _ _ _ _ _ _ _ _ (row t r) d).symm
  congr 1
  · exact iblk_0 m c t r d
  · exact funext fun e => iblk_6 m c t r e
  · exact funext fun e => iblk_7 m c t r e
  · exact funext fun e => iblk_8 m c t r e
  · exact funext fun j => iblk_1 m c t r j
  · exact funext fun j => iblk_2 m c t r j
  · exact funext fun j => heads_row m c t r j

/-- The result's array when the call is done. -/
theorem result_eq : (dats m 0 c).arrAt 12 cfg0.N = ref m c := by
  refine (dats m 0 c).arrAt_eq_of_covers 12 _ (by decide +kernel) fun t _ y => ?_
  blk_simp
  rw [after0_12, iblk_9, iblk_10]
  have hy : y = ix2 (y 0) (y 1) := by funext b; fin_cases b <;> rfl
  generalize hr : y 0 = r at hy
  generalize hj : y 1 = j at hy
  subst hy
  refine (body_at m c t r j).trans ?_
  generalize ref m c = G
  have hc : (row t r).val = 512 * t.val + r.val := rfl
  generalize row t r = a at hc
  blk_ext [idx t]

end Cert.Kernel5Ideal.MixOut
-- ==== Proof.Calls.lean ====
module

public import proofs.«01_k».proof.Defs
public import proofs.«01_k».proof.Proof.Ffn
public import proofs.«01_k».proof.Proof.InProj
public import proofs.«01_k».proof.Proof.MixOut
public import proofs.«01_k».proof.Proof.Gen.Kernel2.Frame
public import proofs.«01_k».proof.Proof.Gen.Kernel3.Frame
public import proofs.«01_k».proof.Proof.Gen.Kernel4.Frame
public import proofs.«01_k».proof.Proof.Gen.Kernel5.Frame

@[expose] public section

noncomputable section

/-! The frames of the calls beside the attention and of their references, and that each call ends with its reference's results. -/

namespace Cert.Proof

open Idealize.ShloMosaic Idealize.ShloMosaic.TcCoe Idealize.SL.Sem

/-- The perceptron call leaves its arguments unchanged, its casts kept. -/
theorem frame_kernel2 : Cert.quiescent_Kernel2 (hKernel2 := Cert.Kernel2.Gen.facts) :=
  fun m ρ _ => Cert.Kernel2.Gen.frame m ρ

/-- The perceptron call leaves its arguments unchanged. -/
theorem frame_kernel2Ideal : Cert.quiescent_Kernel2Ideal (hKernel2Ideal := Cert.Kernel2Ideal.Gen.facts) :=
  fun m ρ _ => Cert.Kernel2Ideal.Gen.frame m ρ

/-- The perceptron's reference leaves its arguments unchanged. -/
theorem frame_reference2Ideal : Cert.quiescent_Reference2Ideal (hReference2Ideal := Cert.Reference2Ideal.Gen.facts) := fun m ρ _ =>
  (θ_run Cert.Reference2Ideal.defs _ _).mono (fun r h => ⟨fun c => (h c).2, sem_eq_zero_of_no_sems (by decide) r.2⟩)
    (Cert.Reference2Ideal.Value.run (F := Ideal) m ρ)

/-- The perceptron call and its reference end with equal results. -/
theorem algebraic2 : Cert.algebraic_Kernel2Ideal_Reference2Ideal (hKernel2Ideal := Cert.Kernel2Ideal.Gen.facts)
    (hReference2Ideal := Cert.Reference2Ideal.Gen.facts) := by
  pair_intro
  · run_from Cert.Kernel2Ideal.Gen.run_main m g
  · run_from Cert.Reference2Ideal.Ffn.run_out m' g'
    exact (Cert.Kernel2Ideal.Ffn.result_eq m c).symm

/-- The final norm call leaves its arguments unchanged, its casts kept. -/
theorem frame_kernel3 : Cert.quiescent_Kernel3 (hKernel3 := Cert.Kernel3.Gen.facts) :=
  fun m ρ _ => Cert.Kernel3.Gen.frame m ρ

/-- The final norm call leaves its arguments unchanged. -/
theorem frame_kernel3Ideal : Cert.quiescent_Kernel3Ideal (hKernel3Ideal := Cert.Kernel3Ideal.Gen.facts) :=
  fun m ρ _ => Cert.Kernel3Ideal.Gen.frame m ρ

/-- The final norm's reference leaves its arguments unchanged. -/
theorem frame_reference3Ideal : Cert.quiescent_Reference3Ideal (hReference3Ideal := Cert.Reference3Ideal.Gen.facts) := fun m ρ _ =>
  (θ_run Cert.Reference3Ideal.defs _ _).mono (fun r h => ⟨fun c => (h c).2, sem_eq_zero_of_no_sems (by decide) r.2⟩)
    (Cert.Reference3Ideal.Value.run (F := Ideal) m ρ)

/-- The final norm call and its reference end with equal results. -/
theorem algebraic3 : Cert.algebraic_Kernel3Ideal_Reference3Ideal (hKernel3Ideal := Cert.Kernel3Ideal.Gen.facts)
    (hReference3Ideal := Cert.Reference3Ideal.Gen.facts) := by
  pair_intro
  · run_from Cert.Kernel3Ideal.Gen.run_main m g
  · run_from Cert.Reference3Ideal.Value.run m' g'
    exact (Cert.Kernel3Ideal.FinalNorm.result_eq m c).symm

/-- The input projection call leaves its arguments unchanged, its casts kept. -/
theorem frame_kernel4 : Cert.quiescent_Kernel4 (hKernel4 := Cert.Kernel4.Gen.facts) :=
  fun m ρ _ => Cert.Kernel4.Gen.frame m ρ

/-- The input projection call leaves its arguments unchanged. -/
theorem frame_kernel4Ideal : Cert.quiescent_Kernel4Ideal (hKernel4Ideal := Cert.Kernel4Ideal.Gen.facts) :=
  fun m ρ _ => Cert.Kernel4Ideal.Gen.frame m ρ

/-- The input projection's reference leaves its arguments unchanged. -/
theorem frame_reference4Ideal : Cert.quiescent_Reference4Ideal (hReference4Ideal := Cert.Reference4Ideal.Gen.facts) := fun m ρ _ =>
  (θ_run Cert.Reference4Ideal.defs _ _).mono (fun r h => ⟨fun c => (h c).2.2, sem_eq_zero_of_no_sems (by decide) r.2⟩)
    (Cert.Reference4Ideal.Value.run (F := Ideal) m ρ)

/-- The input projection call and its reference end with equal results. -/
theorem algebraic4 : Cert.algebraic_Kernel4Ideal_Reference4Ideal (hKernel4Ideal := Cert.Kernel4Ideal.Gen.facts)
    (hReference4Ideal := Cert.Reference4Ideal.Gen.facts) := by
  pair_intro
  · run_from Cert.Kernel4Ideal.Gen.run_main m g
  · run_from Cert.Reference4Ideal.InProj.run_out m' g'
    · exact (Cert.Kernel4Ideal.InProj.result_out m c).symm
    · exact (Cert.Kernel4Ideal.InProj.result_gates m c).symm

/-- The output projection call leaves its arguments unchanged, its casts kept. -/
theorem frame_kernel5 : Cert.quiescent_Kernel5 (hKernel5 := Cert.Kernel5.Gen.facts) :=
  fun m ρ _ => Cert.Kernel5.Gen.frame m ρ

/-- The output projection call leaves its arguments unchanged. -/
theorem frame_kernel5Ideal : Cert.quiescent_Kernel5Ideal (hKernel5Ideal := Cert.Kernel5Ideal.Gen.facts) :=
  fun m ρ _ => Cert.Kernel5Ideal.Gen.frame m ρ

/-- The output projection's reference leaves its arguments unchanged. -/
theorem frame_reference5Ideal : Cert.quiescent_Reference5Ideal (hReference5Ideal := Cert.Reference5Ideal.Gen.facts) := fun m ρ _ =>
  (θ_run Cert.Reference5Ideal.defs _ _).mono (fun r h => ⟨fun c => (h c).2, sem_eq_zero_of_no_sems (by decide) r.2⟩)
    (Cert.Reference5Ideal.Value.run (F := Ideal) m ρ)

/-- The output projection call and its reference end with equal results. -/
theorem algebraic5 : Cert.algebraic_Kernel5Ideal_Reference5Ideal (hKernel5Ideal := Cert.Kernel5Ideal.Gen.facts)
    (hReference5Ideal := Cert.Reference5Ideal.Gen.facts) := by
  pair_intro
  · run_from Cert.Kernel5Ideal.Gen.run_main m g
    · exact Cert.Kernel5Ideal.Gen.V_main_arg0 m c
    · exact Cert.Kernel5Ideal.Gen.V_main_arg1 m c
    · exact Cert.Kernel5Ideal.Gen.V_main_arg2 m c
    · exact Cert.Kernel5Ideal.Gen.V_main_arg3 m c
    · exact Cert.Kernel5Ideal.Gen.V_main_arg4 m c
    · exact Cert.Kernel5Ideal.Gen.V_main_arg5 m c
    · exact Cert.Kernel5Ideal.Gen.V_main_arg6 m c
    · exact Cert.Kernel5Ideal.Gen.V_main_arg7 m c
    · exact Cert.Kernel5Ideal.Gen.V_main_arg8 m c
    · exact Cert.Kernel5Ideal.Gen.V_main_arg9 m c
  · run_from Cert.Reference5Ideal.MixOut.run_out m' g'
    exact (Cert.Kernel5Ideal.MixOut.result_eq m c).symm

end Cert.Proof
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Reference2Ideal.Run
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import proofs.«01_k».proof.Proof.Gen.Reference3Ideal.Run
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Reference4Ideal
public import proofs.«01_k».proof.Proof.Gen.Reference4Ideal.Run
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Reference5Ideal
public import proofs.«01_k».proof.Proof.Gen.Reference5Ideal.Run
public import proofs.«01_k».proof.Proof.Frames
public import proofs.«01_k».proof.Proof.Algebraic
public import proofs.«01_k».proof.Proof.Calls
public import Idealize.ShloMosaic.Adequacy
public import Idealize.ShloMosaic.Init

@[expose] public section

noncomputable section

namespace Cert.Proof

open Idealize.ShloMosaic Idealize.SL.Sem Cert.Kernel

/-- Everything claimed: the frames, the casts' programs and the equal results, of the attention call and of the
    perceptron, final norm, input projection and output projection calls. -/
theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts, Cert.Pre_finite.facts,
  frame_kernel, frame_kernelIdeal, fun m ρ _ => frame_kernelIdeal m ρ trivial,
  frame_referenceIdeal, fun m ρ _ => frame_referenceIdeal m ρ trivial,
  frame_kernel2, frame_kernel2Ideal, frame_reference2Ideal, frame_kernel3, frame_kernel3Ideal, frame_reference3Ideal,
  frame_kernel4, frame_kernel4Ideal, frame_reference4Ideal, frame_kernel5, frame_kernel5Ideal, frame_reference5Ideal,
  trivial, algebraic, trivial, algebraic2, trivial, algebraic3,
  trivial, algebraic4, trivial, algebraic5⟩

end Cert.Proof

end
